-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S4x256x128 : Shape := ⟨3, ![4, 256, 128]⟩
abbrev S2x256x128 : Shape := ⟨3, ![2, 256, 128]⟩
abbrev S_ : Shape := ⟨0, ![]⟩
abbrev S16 : Shape := ⟨1, ![16]⟩
abbrev S4 : Shape := ⟨1, ![4]⟩
abbrev S2 : Shape := ⟨1, ![2]⟩
abbrev S512x128 : Shape := ⟨2, ![512, 128]⟩
abbrev S256x128 : Shape := ⟨2, ![256, 128]⟩
abbrev S1x256x128 : Shape := ⟨3, ![1, 256, 128]⟩
abbrev S1 : Shape := ⟨1, ![1]⟩

abbrev nBuf : Space → Nat
  | .hbm => 3
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S512x512, .f32⟩
  | .local _ .vmem, ⟨4, _⟩ => ⟨S4x256x128, .f32⟩
  | .local _ .vmem, ⟨5, _⟩ => ⟨S4x256x128, .bf16⟩
  | .local _ .vmem, ⟨6, _⟩ => ⟨S4x256x128, .bf16⟩
  | .local _ .vmem, ⟨7, _⟩ => ⟨S4x256x128, .f32⟩
  | .local _ .vmem, ⟨8, _⟩ => ⟨S4x256x128, .bf16⟩
  | .local _ .vmem, ⟨9, _⟩ => ⟨S4x256x128, .bf16⟩
  | .local _ .vmem, ⟨10, _⟩ => ⟨S4x256x128, .bf16⟩
  | .local _ .vmem, ⟨11, _⟩ => ⟨S2x256x128, .bf16⟩
  | .local _ .vmem, ⟨12, _⟩ => ⟨S2x256x128, .bf16⟩
  | .local _ .vmem, ⟨13, _⟩ => ⟨S4x256x128, .f32⟩
  | .local _ .vmem, ⟨14, _⟩ => ⟨S4x256x128, .f32⟩
  | .local _ .vmem, ⟨15, _⟩ => ⟨S4x256x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_21 : BitVec 32 := 0#32
  let c2_i32_10 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32 : BitVec 32 := 512#32
  let v26 : BitVec 32 := Scalar.muli v25 c512_i32
  ![0, v26.toNat]
def k0_dev1 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v42 : BitVec 32 := Scalar.muli v2 c8_i32_23
  let v43 : BitVec 32 := Scalar.addi c0_i32_24 v42
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_25 : BitVec 32 := 4#32
  let v44 : BitVec 32 := Scalar.muli v22 c4_i32_25
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.muli v8 c1_i32_26
  let v47 : BitVec 32 := Scalar.addi v45 v46
  v47.toNat
def k0_dev2 (d0 : Dev nD) : Nat :=
  let c0_i32_29 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_28 : BitVec 32 := 8#32
  let v48 : BitVec 32 := Scalar.muli v23 c8_i32_28
  let v49 : BitVec 32 := Scalar.addi c0_i32_29 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v50 : BitVec 32 := Scalar.muli v5 c4_i32_30
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v52 : BitVec 32 := Scalar.muli v8 c1_i32_31
  let v53 : BitVec 32 := Scalar.addi v51 v52
  v53.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v54 : BitVec 32 := Scalar.muli v2 c8_i32_33
  let v55 : BitVec 32 := Scalar.addi c0_i32_34 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v56 : BitVec 32 := Scalar.muli v5 c4_i32_35
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_36 : BitVec 32 := 1#32
  let v58 : BitVec 32 := Scalar.muli v21 c1_i32_36
  let v59 : BitVec 32 := Scalar.addi v57 v58
  v59.toNat
def k0_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_38 : BitVec 32 := 0#32
  let v61 : BitVec 1 := Scalar.cmpi .eq v5 c0_i32_38
  let v62 : BitVec 32 := Scalar.extui v61
  let c0_i32_39 : BitVec 32 := 0#32
  let v63 : BitVec 1 := Scalar.cmpi .ne v62 c0_i32_39
  v63

def k0_dev4 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v80 : BitVec 32 := Scalar.muli v2 c8_i32_55
  let v81 : BitVec 32 := Scalar.addi c0_i32_56 v80
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_57 : BitVec 32 := 4#32
  let v82 : BitVec 32 := Scalar.muli v22 c4_i32_57
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v84 : BitVec 32 := Scalar.muli v8 c1_i32_58
  let v85 : BitVec 32 := Scalar.addi v83 v84
  v85.toNat
def k0_dev5 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v107 : BitVec 32 := Scalar.muli v2 c8_i32_76
  let v108 : BitVec 32 := Scalar.addi c0_i32_77 v107
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_78 : BitVec 32 := 4#32
  let v109 : BitVec 32 := Scalar.muli v22 c4_i32_78
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v111 : BitVec 32 := Scalar.muli v8 c1_i32_79
  let v112 : BitVec 32 := Scalar.addi v110 v111
  v112.toNat
def k0_dev6 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v134 : BitVec 32 := Scalar.muli v2 c8_i32_97
  let v135 : BitVec 32 := Scalar.addi c0_i32_98 v134
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_99 : BitVec 32 := 4#32
  let v136 : BitVec 32 := Scalar.muli v22 c4_i32_99
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v138 : BitVec 32 := Scalar.muli v8 c1_i32_100
  let v139 : BitVec 32 := Scalar.addi v137 v138
  v139.toNat
def k0_dev7 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v161 : BitVec 32 := Scalar.muli v2 c8_i32_118
  let v162 : BitVec 32 := Scalar.addi c0_i32_119 v161
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_120 : BitVec 32 := 4#32
  let v163 : BitVec 32 := Scalar.muli v22 c4_i32_120
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v165 : BitVec 32 := Scalar.muli v8 c1_i32_121
  let v166 : BitVec 32 := Scalar.addi v164 v165
  v166.toNat
def k0_dev8 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v200 : BitVec 32 := Scalar.muli v2 c8_i32_154
  let v201 : BitVec 32 := Scalar.addi c0_i32_155 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v202 : BitVec 32 := Scalar.muli v5 c4_i32_156
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_157 : BitVec 32 := 1#32
  let v204 : BitVec 32 := Scalar.muli v21 c1_i32_157
  let v205 : BitVec 32 := Scalar.addi v203 v204
  v205.toNat
def k0_off2 (d0 : Dev nD) (c0_i32_162 : BitVec 32) : Fin 2 → Nat :=
  let c0_i32_165 : BitVec 32 := 0#32
  let c2_i32_10 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32 : BitVec 32 := 512#32
  let v26 : BitVec 32 := Scalar.muli v25 c512_i32
  let v214 : BitVec 32 := Scalar.addi v26 c0_i32_162
  ![0, v214.toNat]
def k0_dev9 (d0 : Dev nD) : Nat :=
  let c0_i32_197 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_196 : BitVec 32 := 8#32
  let v245 : BitVec 32 := Scalar.muli v23 c8_i32_196
  let v246 : BitVec 32 := Scalar.addi c0_i32_197 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v247 : BitVec 32 := Scalar.muli v5 c4_i32_198
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v249 : BitVec 32 := Scalar.muli v8 c1_i32_199
  let v250 : BitVec 32 := Scalar.addi v248 v249
  v250.toNat
def k0_dev10 (d0 : Dev nD) : Nat :=
  let c0_i32_238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_237 : BitVec 32 := 8#32
  let v290 : BitVec 32 := Scalar.muli v2 c8_i32_237
  let v291 : BitVec 32 := Scalar.addi c0_i32_238 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v292 : BitVec 32 := Scalar.muli v5 c4_i32_239
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_240 : BitVec 32 := 1#32
  let v294 : BitVec 32 := Scalar.muli v21 c1_i32_240
  let v295 : BitVec 32 := Scalar.addi v293 v294
  v295.toNat
def k0_dev11 (d0 : Dev nD) : Nat :=
  let c0_i32_279 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_278 : BitVec 32 := 8#32
  let v335 : BitVec 32 := Scalar.muli v23 c8_i32_278
  let v336 : BitVec 32 := Scalar.addi c0_i32_279 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_280 : BitVec 32 := 4#32
  let v337 : BitVec 32 := Scalar.muli v5 c4_i32_280
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v339 : BitVec 32 := Scalar.muli v8 c1_i32_281
  let v340 : BitVec 32 := Scalar.addi v338 v339
  v340.toNat
def k0_dev12 (d0 : Dev nD) : Nat :=
  let c0_i32_296 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_295 : BitVec 32 := 8#32
  let v355 : BitVec 32 := Scalar.muli v23 c8_i32_295
  let v356 : BitVec 32 := Scalar.addi c0_i32_296 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v357 : BitVec 32 := Scalar.muli v5 c4_i32_297
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v359 : BitVec 32 := Scalar.muli v8 c1_i32_298
  let v360 : BitVec 32 := Scalar.addi v358 v359
  v360.toNat
def k0_dev13 (d0 : Dev nD) : Nat :=
  let c0_i32_308 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_307 : BitVec 32 := 8#32
  let v369 : BitVec 32 := Scalar.muli v23 c8_i32_307
  let v370 : BitVec 32 := Scalar.addi c0_i32_308 v369
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v371 : BitVec 32 := Scalar.muli v5 c4_i32_309
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v373 : BitVec 32 := Scalar.muli v8 c1_i32_310
  let v374 : BitVec 32 := Scalar.addi v372 v373
  v374.toNat
def k0_dev14 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319 : BitVec 32 := 8#32
  let v383 : BitVec 32 := Scalar.muli v2 c8_i32_319
  let v384 : BitVec 32 := Scalar.addi c0_i32_320 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v385 : BitVec 32 := Scalar.muli v5 c4_i32_321
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_322 : BitVec 32 := 1#32
  let v387 : BitVec 32 := Scalar.muli v21 c1_i32_322
  let v388 : BitVec 32 := Scalar.addi v386 v387
  v388.toNat
def k0_dev15 (d0 : Dev nD) : Nat :=
  let c0_i32_332 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_331 : BitVec 32 := 8#32
  let v397 : BitVec 32 := Scalar.muli v2 c8_i32_331
  let v398 : BitVec 32 := Scalar.addi c0_i32_332 v397
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333 : BitVec 32 := 4#32
  let v399 : BitVec 32 := Scalar.muli v5 c4_i32_333
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_334 : BitVec 32 := 1#32
  let v401 : BitVec 32 := Scalar.muli v21 c1_i32_334
  let v402 : BitVec 32 := Scalar.addi v400 v401
  v402.toNat
def k0_dev16 (d0 : Dev nD) : Nat :=
  let c0_i32_356 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_355 : BitVec 32 := 8#32
  let v423 : BitVec 32 := Scalar.muli v2 c8_i32_355
  let v424 : BitVec 32 := Scalar.addi c0_i32_356 v423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v425 : BitVec 32 := Scalar.muli v5 c4_i32_357
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_358 : BitVec 32 := 1#32
  let v427 : BitVec 32 := Scalar.muli v21 c1_i32_358
  let v428 : BitVec 32 := Scalar.addi v426 v427
  v428.toNat
def k0_dev17 (d0 : Dev nD) : Nat :=
  let c0_i32_380 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379 : BitVec 32 := 8#32
  let v449 : BitVec 32 := Scalar.muli v2 c8_i32_379
  let v450 : BitVec 32 := Scalar.addi c0_i32_380 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_381 : BitVec 32 := 4#32
  let v451 : BitVec 32 := Scalar.muli v5 c4_i32_381
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_382 : BitVec 32 := 1#32
  let v453 : BitVec 32 := Scalar.muli v21 c1_i32_382
  let v454 : BitVec 32 := Scalar.addi v452 v453
  v454.toNat
def k0_dev18 (d0 : Dev nD) : Nat :=
  let c0_i32_404 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_403 : BitVec 32 := 8#32
  let v475 : BitVec 32 := Scalar.muli v23 c8_i32_403
  let v476 : BitVec 32 := Scalar.addi c0_i32_404 v475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_405 : BitVec 32 := 4#32
  let v477 : BitVec 32 := Scalar.muli v5 c4_i32_405
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v479 : BitVec 32 := Scalar.muli v8 c1_i32_406
  let v480 : BitVec 32 := Scalar.addi v478 v479
  v480.toNat
def k0_dev19 (d0 : Dev nD) : Nat :=
  let c0_i32_428 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_427 : BitVec 32 := 8#32
  let v501 : BitVec 32 := Scalar.muli v23 c8_i32_427
  let v502 : BitVec 32 := Scalar.addi c0_i32_428 v501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_429 : BitVec 32 := 4#32
  let v503 : BitVec 32 := Scalar.muli v5 c4_i32_429
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v505 : BitVec 32 := Scalar.muli v8 c1_i32_430
  let v506 : BitVec 32 := Scalar.addi v504 v505
  v506.toNat
def k0_off3 (d0 : Dev nD) (c0_i32_489 : BitVec 32) : Fin 2 → Nat :=
  let c0_i32_492 : BitVec 32 := 0#32
  let c2_i32_12 : BitVec 32 := 2#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let v28 : BitVec 32 := Scalar.muli c2_i32_12 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.addi v28 v18
  let c512_i32_13 : BitVec 32 := 512#32
  let v30 : BitVec 32 := Scalar.muli v29 c512_i32_13
  let v569 : BitVec 32 := Scalar.addi v30 c0_i32_489
  ![0, v569.toNat]
def k0_off4 (d0 : Dev nD) (c0_i32_501 : BitVec 32) : Fin 2 → Nat :=
  let c0_i32_504 : BitVec 32 := 0#32
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let v33 : BitVec 32 := Scalar.addi v31 v32
  let c512_i32_16 : BitVec 32 := 512#32
  let v34 : BitVec 32 := Scalar.muli v33 c512_i32_16
  let v581 : BitVec 32 := Scalar.addi v34 c0_i32_501
  ![0, v581.toNat]
def k0_off5 (d0 : Dev nD) (c0_i32_591 : BitVec 32) : Fin 2 → Nat :=
  let c0_i32_593 : BitVec 32 := 0#32
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let v38 : BitVec 32 := Scalar.addi v36 v37
  let c512_i32_20 : BitVec 32 := 512#32
  let v39 : BitVec 32 := Scalar.muli v38 c512_i32_20
  let v677 : BitVec 32 := Scalar.addi v39 c0_i32_591
  ![0, v677.toNat]
def k0_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_40 : BitVec 32 := 1#32
  let v64 : BitVec 1 := Scalar.cmpi .eq v5 c1_i32_40
  let v65 : BitVec 32 := Scalar.extui v64
  let c0_i32_41 : BitVec 32 := 0#32
  let v66 : BitVec 1 := Scalar.cmpi .ne v65 c0_i32_41
  v66

def k0_dev20 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v80 : BitVec 32 := Scalar.muli v2 c8_i32_55
  let v81 : BitVec 32 := Scalar.addi c0_i32_56 v80
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_57 : BitVec 32 := 4#32
  let v82 : BitVec 32 := Scalar.muli v22 c4_i32_57
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v84 : BitVec 32 := Scalar.muli v8 c1_i32_58
  let v85 : BitVec 32 := Scalar.addi v83 v84
  v85.toNat
def k0_dev21 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v107 : BitVec 32 := Scalar.muli v2 c8_i32_76
  let v108 : BitVec 32 := Scalar.addi c0_i32_77 v107
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_78 : BitVec 32 := 4#32
  let v109 : BitVec 32 := Scalar.muli v22 c4_i32_78
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v111 : BitVec 32 := Scalar.muli v8 c1_i32_79
  let v112 : BitVec 32 := Scalar.addi v110 v111
  v112.toNat
def k0_dev22 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v134 : BitVec 32 := Scalar.muli v2 c8_i32_97
  let v135 : BitVec 32 := Scalar.addi c0_i32_98 v134
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_99 : BitVec 32 := 4#32
  let v136 : BitVec 32 := Scalar.muli v22 c4_i32_99
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v138 : BitVec 32 := Scalar.muli v8 c1_i32_100
  let v139 : BitVec 32 := Scalar.addi v137 v138
  v139.toNat
def k0_dev23 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v161 : BitVec 32 := Scalar.muli v2 c8_i32_118
  let v162 : BitVec 32 := Scalar.addi c0_i32_119 v161
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_120 : BitVec 32 := 4#32
  let v163 : BitVec 32 := Scalar.muli v22 c4_i32_120
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v165 : BitVec 32 := Scalar.muli v8 c1_i32_121
  let v166 : BitVec 32 := Scalar.addi v164 v165
  v166.toNat
def k0_dev24 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v200 : BitVec 32 := Scalar.muli v2 c8_i32_154
  let v201 : BitVec 32 := Scalar.addi c0_i32_155 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v202 : BitVec 32 := Scalar.muli v5 c4_i32_156
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_157 : BitVec 32 := 1#32
  let v204 : BitVec 32 := Scalar.muli v21 c1_i32_157
  let v205 : BitVec 32 := Scalar.addi v203 v204
  v205.toNat
def k0_off6 (d0 : Dev nD) (c0_i32_162 : BitVec 32) : Fin 2 → Nat :=
  let c0_i32_165 : BitVec 32 := 0#32
  let c2_i32_10 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32 : BitVec 32 := 512#32
  let v26 : BitVec 32 := Scalar.muli v25 c512_i32
  let v214 : BitVec 32 := Scalar.addi v26 c0_i32_162
  ![0, v214.toNat]
def k0_dev25 (d0 : Dev nD) : Nat :=
  let c0_i32_197 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_196 : BitVec 32 := 8#32
  let v245 : BitVec 32 := Scalar.muli v23 c8_i32_196
  let v246 : BitVec 32 := Scalar.addi c0_i32_197 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v247 : BitVec 32 := Scalar.muli v5 c4_i32_198
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v249 : BitVec 32 := Scalar.muli v8 c1_i32_199
  let v250 : BitVec 32 := Scalar.addi v248 v249
  v250.toNat
def k0_dev26 (d0 : Dev nD) : Nat :=
  let c0_i32_238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_237 : BitVec 32 := 8#32
  let v290 : BitVec 32 := Scalar.muli v2 c8_i32_237
  let v291 : BitVec 32 := Scalar.addi c0_i32_238 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v292 : BitVec 32 := Scalar.muli v5 c4_i32_239
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_240 : BitVec 32 := 1#32
  let v294 : BitVec 32 := Scalar.muli v21 c1_i32_240
  let v295 : BitVec 32 := Scalar.addi v293 v294
  v295.toNat
def k0_dev27 (d0 : Dev nD) : Nat :=
  let c0_i32_279 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_278 : BitVec 32 := 8#32
  let v335 : BitVec 32 := Scalar.muli v23 c8_i32_278
  let v336 : BitVec 32 := Scalar.addi c0_i32_279 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_280 : BitVec 32 := 4#32
  let v337 : BitVec 32 := Scalar.muli v5 c4_i32_280
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v339 : BitVec 32 := Scalar.muli v8 c1_i32_281
  let v340 : BitVec 32 := Scalar.addi v338 v339
  v340.toNat
def k0_dev28 (d0 : Dev nD) : Nat :=
  let c0_i32_296 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_295 : BitVec 32 := 8#32
  let v355 : BitVec 32 := Scalar.muli v23 c8_i32_295
  let v356 : BitVec 32 := Scalar.addi c0_i32_296 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v357 : BitVec 32 := Scalar.muli v5 c4_i32_297
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v359 : BitVec 32 := Scalar.muli v8 c1_i32_298
  let v360 : BitVec 32 := Scalar.addi v358 v359
  v360.toNat
def k0_dev29 (d0 : Dev nD) : Nat :=
  let c0_i32_308 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_307 : BitVec 32 := 8#32
  let v369 : BitVec 32 := Scalar.muli v23 c8_i32_307
  let v370 : BitVec 32 := Scalar.addi c0_i32_308 v369
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v371 : BitVec 32 := Scalar.muli v5 c4_i32_309
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v373 : BitVec 32 := Scalar.muli v8 c1_i32_310
  let v374 : BitVec 32 := Scalar.addi v372 v373
  v374.toNat
def k0_dev30 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319 : BitVec 32 := 8#32
  let v383 : BitVec 32 := Scalar.muli v2 c8_i32_319
  let v384 : BitVec 32 := Scalar.addi c0_i32_320 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v385 : BitVec 32 := Scalar.muli v5 c4_i32_321
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_322 : BitVec 32 := 1#32
  let v387 : BitVec 32 := Scalar.muli v21 c1_i32_322
  let v388 : BitVec 32 := Scalar.addi v386 v387
  v388.toNat
def k0_dev31 (d0 : Dev nD) : Nat :=
  let c0_i32_332 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_331 : BitVec 32 := 8#32
  let v397 : BitVec 32 := Scalar.muli v2 c8_i32_331
  let v398 : BitVec 32 := Scalar.addi c0_i32_332 v397
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333 : BitVec 32 := 4#32
  let v399 : BitVec 32 := Scalar.muli v5 c4_i32_333
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_334 : BitVec 32 := 1#32
  let v401 : BitVec 32 := Scalar.muli v21 c1_i32_334
  let v402 : BitVec 32 := Scalar.addi v400 v401
  v402.toNat
def k0_dev32 (d0 : Dev nD) : Nat :=
  let c0_i32_356 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_355 : BitVec 32 := 8#32
  let v423 : BitVec 32 := Scalar.muli v2 c8_i32_355
  let v424 : BitVec 32 := Scalar.addi c0_i32_356 v423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v425 : BitVec 32 := Scalar.muli v5 c4_i32_357
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_358 : BitVec 32 := 1#32
  let v427 : BitVec 32 := Scalar.muli v21 c1_i32_358
  let v428 : BitVec 32 := Scalar.addi v426 v427
  v428.toNat
def k0_dev33 (d0 : Dev nD) : Nat :=
  let c0_i32_380 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379 : BitVec 32 := 8#32
  let v449 : BitVec 32 := Scalar.muli v2 c8_i32_379
  let v450 : BitVec 32 := Scalar.addi c0_i32_380 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_381 : BitVec 32 := 4#32
  let v451 : BitVec 32 := Scalar.muli v5 c4_i32_381
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_382 : BitVec 32 := 1#32
  let v453 : BitVec 32 := Scalar.muli v21 c1_i32_382
  let v454 : BitVec 32 := Scalar.addi v452 v453
  v454.toNat
def k0_dev34 (d0 : Dev nD) : Nat :=
  let c0_i32_404 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_403 : BitVec 32 := 8#32
  let v475 : BitVec 32 := Scalar.muli v23 c8_i32_403
  let v476 : BitVec 32 := Scalar.addi c0_i32_404 v475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_405 : BitVec 32 := 4#32
  let v477 : BitVec 32 := Scalar.muli v5 c4_i32_405
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v479 : BitVec 32 := Scalar.muli v8 c1_i32_406
  let v480 : BitVec 32 := Scalar.addi v478 v479
  v480.toNat
def k0_dev35 (d0 : Dev nD) : Nat :=
  let c0_i32_428 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_427 : BitVec 32 := 8#32
  let v501 : BitVec 32 := Scalar.muli v23 c8_i32_427
  let v502 : BitVec 32 := Scalar.addi c0_i32_428 v501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_429 : BitVec 32 := 4#32
  let v503 : BitVec 32 := Scalar.muli v5 c4_i32_429
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v505 : BitVec 32 := Scalar.muli v8 c1_i32_430
  let v506 : BitVec 32 := Scalar.addi v504 v505
  v506.toNat
def k0_off7 (d0 : Dev nD) (c0_i32_489 : BitVec 32) : Fin 2 → Nat :=
  let c0_i32_492 : BitVec 32 := 0#32
  let c2_i32_12 : BitVec 32 := 2#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let v28 : BitVec 32 := Scalar.muli c2_i32_12 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.addi v28 v18
  let c512_i32_13 : BitVec 32 := 512#32
  let v30 : BitVec 32 := Scalar.muli v29 c512_i32_13
  let v569 : BitVec 32 := Scalar.addi v30 c0_i32_489
  ![0, v569.toNat]
def k0_off8 (d0 : Dev nD) (c0_i32_501 : BitVec 32) : Fin 2 → Nat :=
  let c0_i32_504 : BitVec 32 := 0#32
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let v33 : BitVec 32 := Scalar.addi v31 v32
  let c512_i32_16 : BitVec 32 := 512#32
  let v34 : BitVec 32 := Scalar.muli v33 c512_i32_16
  let v581 : BitVec 32 := Scalar.addi v34 c0_i32_501
  ![0, v581.toNat]
def k0_off9 (d0 : Dev nD) (c0_i32_591 : BitVec 32) : Fin 2 → Nat :=
  let c0_i32_593 : BitVec 32 := 0#32
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let v38 : BitVec 32 := Scalar.addi v36 v37
  let c512_i32_20 : BitVec 32 := 512#32
  let v39 : BitVec 32 := Scalar.muli v38 c512_i32_20
  let v677 : BitVec 32 := Scalar.addi v39 c0_i32_591
  ![0, v677.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Text.lean ====
/- The kernel's text, said once for both halves of the mesh: the steps one device takes, each over
   the slots of the scratch buffers, and the body as their sequence. The two branches of the printed
   body differ only in the devices they name, the columns they write, and in which half of the
   512 rows of a product a device keeps: `Places` holds these, and `impl` is the common branch. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal.Swap

open Idealize.ShloMosaic Idealize.SL.Sem Cert.KernelIdeal.Gen TcCoe

variable {F : FTy → Type} [FloatOps F]

/-! ## Buffers, slots and semaphores -/

abbrev bX : Memref sig .tc .vmem S512x512 .f32 := Memref.whole cc0_stg0_0
abbrev bDy : Memref sig .tc .vmem S512x2048 .f32 := Memref.whole cc0_stg1_0
abbrev bOut : Memref sig .tc .vmem S256x2048 .f32 := Memref.whole cc0_stg2_0
abbrev bCol : Memref sig .tc .vmem S512x512 .f32 := Memref.whole cc0_scratch0
abbrev bKeep : Memref sig .tc .vmem S4x256x128 .f32 := Memref.whole cc0_scratch1
abbrev bSend : Memref sig .tc .vmem S4x256x128 .bf16 := Memref.whole cc0_scratch2
abbrev bYrecv : Memref sig .tc .vmem S4x256x128 .bf16 := Memref.whole cc0_scratch3
abbrev bRed : Memref sig .tc .vmem S4x256x128 .f32 := Memref.whole cc0_scratch4
abbrev bRed16 : Memref sig .tc .vmem S4x256x128 .bf16 := Memref.whole cc0_scratch5
abbrev bXm : Memref sig .tc .vmem S4x256x128 .bf16 := Memref.whole cc0_scratch6
abbrev bZm : Memref sig .tc .vmem S4x256x128 .bf16 := Memref.whole cc0_scratch7
abbrev bXd : Memref sig .tc .vmem S2x256x128 .bf16 := Memref.whole cc0_scratch8
abbrev bZd : Memref sig .tc .vmem S2x256x128 .bf16 := Memref.whole cc0_scratch9
abbrev bCx : Memref sig .tc .vmem S4x256x128 .f32 := Memref.whole cc0_scratch10
abbrev bCz : Memref sig .tc .vmem S4x256x128 .f32 := Memref.whole cc0_scratch11
abbrev bCd : Memref sig .tc .vmem S4x256x128 .f32 := Memref.whole cc0_scratch12

/-- A scratch buffer of `n` slots of 256 × 128 elements. -/
abbrev Slots (n : ℕ) : Shape := ⟨3, ![n, 256, 128]⟩

/-- Slot `j` lies in its buffer. -/
theorem slot_inb {n : ℕ} (j : Fin n) : ∀ a, (![j.val, 0, 0] : Fin 3 → ℕ) a + S1x256x128.size a ≤ (Slots n).size a := by
  intro a
  fin_cases a <;> simp
  omega

/-- The rectangle of slot `j`. -/
abbrev slotR {n : ℕ} (j : Fin n) : Rect (Slots n) := Rect.unit (s := Slots n) ![j.val, 0, 0] S1x256x128.size (slot_inb j)

/-- A slot starts at whole packed rows, and covers whole words. -/
theorem slot_packed {n : ℕ} (j : Fin n) : (slotR j).PackedRows (EltTy.packing .bf16) :=
  Or.inr ⟨by simp, rfl, Or.inl ⟨⟨0, rfl⟩, ⟨128, rfl⟩⟩⟩

theorem slot_words {n : ℕ} (j : Fin n) : (slotR j).WholeWords (EltTy.packing .bf16) := Or.inl (slot_packed j)

/-- Slot `j` of a buffer, as the 256 × 128 array a copy takes. -/
abbrev slot {n : ℕ} {t : EltTy} (m : Memref sig .tc .vmem (Slots n) t) (j : Fin n) : Memref sig .tc .vmem S256x128 t :=
  (m.slice (slotR j) (fun _ => rfl)).squeeze S256x128 squeezes_S1x256x128_S256x128

theorem inb_sem {n : ℕ} (j : Fin n) : ∀ i, (![j.val] : Fin 1 → ℕ) i + S1.size i ≤ (⟨1, ![n]⟩ : Shape).size i := by
  intro i; fin_cases i; simp; omega

/-- Semaphore `j` of an array of `n`. -/
abbrev semAt {n : ℕ} (a : DmaSems sig ⟨1, ![n]⟩) (j : Fin n) : DmaSem sig :=
  ((a.slice (Rect.unit (s := ⟨1, ![n]⟩) ![j.val] S1.size (inb_sem j))).squeeze S_ squeezes_S1_S_).sem

abbrev sCol : DmaSem sig := cc0_scratch13.sem
abbrev sOut (k : Fin 16) : DmaSem sig := semAt cc0_scratch14 k
abbrev sYs (j : Fin 4) : DmaSem sig := semAt cc0_scratch15 j
abbrev sYr (j : Fin 4) : DmaSem sig := semAt cc0_scratch16 j
abbrev sXs (j : Fin 4) : DmaSem sig := semAt cc0_scratch17 j
abbrev sXr (j : Fin 4) : DmaSem sig := semAt cc0_scratch18 j
abbrev sZs (j : Fin 4) : DmaSem sig := semAt cc0_scratch19 j
abbrev sZr (j : Fin 4) : DmaSem sig := semAt cc0_scratch20 j
abbrev sFxs (i : Fin 2) : DmaSem sig := semAt cc0_scratch21 i
abbrev sFxr (i : Fin 2) : DmaSem sig := semAt cc0_scratch22 i
abbrev sFzs (i : Fin 2) : DmaSem sig := semAt cc0_scratch23 i
abbrev sFzr (i : Fin 2) : DmaSem sig := semAt cc0_scratch24 i
abbrev sBar : Sem sig := (SemArray.scalar (sig.barrier 0 rfl) : Sems sig S_).sem

/-! ## The values -/

/-- A device's product: its block of `x`, transposed, times 128 of its columns. -/
def matV (x : Vec F S512x512 .f32) (b : Vec F S512x128 .f32) : FVec F S512x128 .f32 :=
  matmul dot_S512x512_S512x128_S512x128_0_0_1_1_n_n none (shapeCast S512x512 x shapeCasts_S512x512_S512x512) b
    (constant S512x128 .f32 0x00000000#32)

/-- The upper or the lower 256 rows of a product. -/
def half : Bool → FVec F S512x128 .f32 → FVec F S256x128 .f32
  | false, v => extractStridedSlice S256x128 ![0, 0] v slices_S512x128_o0_0_S256x128
  | true, v => extractStridedSlice S256x128 ![256, 0] v slices_S512x128_o256_0_S256x128

/-- The half a device keeps, and the half it sends, in bf16. -/
def keepV (up : Bool) (x : Vec F S512x512 .f32) (b : Vec F S512x128 .f32) : Vec F S1x256x128 .f32 :=
  shapeCast S1x256x128 (half up (matV x b)) shapeCasts_S256x128_S1x256x128
def sendV (up : Bool) (x : Vec F S512x512 .f32) (b : Vec F S512x128 .f32) : Vec F S1x256x128 .bf16 :=
  shapeCast S1x256x128 (truncf .bf16 (half (!up) (matV x b)) bitsLt_bf16_f32) shapeCasts_S256x128_S1x256x128

/-- What is kept plus what arrived. -/
def sumV (a : Vec F S1x256x128 .f32) (r : Vec F S1x256x128 .bf16) : FVec F S256x128 .f32 :=
  addf (shapeCast S256x128 a shapeCasts_S1x256x128_S256x128)
    (extf .f32 (shapeCast S256x128 r shapeCasts_S1x256x128_S256x128) bitsLt_bf16_f32)
def redV (a : Vec F S1x256x128 .f32) (r : Vec F S1x256x128 .bf16) : Vec F S1x256x128 .f32 :=
  shapeCast S1x256x128 (sumV a r) shapeCasts_S256x128_S1x256x128
def red16V (a : Vec F S1x256x128 .f32) (r : Vec F S1x256x128 .bf16) : Vec F S1x256x128 .bf16 :=
  shapeCast S1x256x128 (truncf .bf16 (sumV a r) bitsLt_bf16_f32) shapeCasts_S256x128_S1x256x128

/-- An arrived slot, in f32. -/
def extV (r : Vec F S1x256x128 .bf16) : Vec F S1x256x128 .f32 :=
  shapeCast S1x256x128 (extf .f32 (shapeCast S256x128 r shapeCasts_S1x256x128_S256x128) bitsLt_bf16_f32)
    shapeCasts_S256x128_S1x256x128

/-! ## The steps -/

/-- The programs of the kernel. -/
abbrev PG (F : FTy → Type) (α : Type) := Prog (TpuEff nD τ sig (Elt F) Λ₀ .tc) α

section Steps
variable {α : Type}

/-- Load a slot. -/
def ld {n : ℕ} {t : EltTy} (m : Memref sig .tc .vmem (Slots n) t) (j : Fin n) (k : Vec F S1x256x128 t → PG F α) : PG F α :=
  .op (.load m (slotR j).toLoadRect (View.loadsAt_vmem h_S1x256x128)) k

/-- Store a slot: of f32, and of bf16. -/
def stF {n : ℕ} (m : Memref sig .tc .vmem (Slots n) .f32) (j : Fin n) (v : Vec F S1x256x128 .f32) (k : PG F α) : PG F α :=
  .op (.store m (slotR j) v Finset.univ (View.stores_vmem_bits_univ h_S1x256x128 rfl) (.inl rfl)) fun _ => k
def stB {n : ℕ} (m : Memref sig .tc .vmem (Slots n) .bf16) (hm : m.IsWhole) (j : Fin n) (v : Vec F S1x256x128 .bf16) (k : PG F α) : PG F α :=
  .op (.store m (slotR j) v Finset.univ
    (View.stores_vmem h_S1x256x128 (hm.storeExact_slice rfl _ (slot_packed j)) (fun _ => rfl)) (.inl rfl)) fun _ => k

/-- Start the copy of slot `i` into slot `j` of device `d`'s buffer. -/
def send {n n' : ℕ} (d : Dev nD) (a : Memref sig .tc .vmem (Slots n) .bf16) (ha : a.IsWhole) (i : Fin n)
    (b : Memref sig .tc .vmem (Slots n') .bf16) (hb : b.IsWhole) (j : Fin n') (s r : DmaSem sig) (k : PG F α) : PG F α :=
  .op (.enqueueDma (slot a i) (.remote (Dev.tc d) (slot b j) (.dma s)) (.dma r)
    ((ha.wordExact_slice rfl _ (slot_words i)).reshape _ _) ((hb.wordExact_slice rfl _ (slot_words j)).reshape _ _)
    ⟨⟨rfl, Or.inl rfl⟩, trivial⟩) fun _ => k

/-- Wait for a copy between slots. -/
def waitS {n n' : ℕ} (s : DmaSem sig) (a : Memref sig .tc .vmem (Slots n) .bf16) (ha : a.IsWhole) (i : Fin n)
    (b : Memref sig .tc .vmem (Slots n') .bf16) (hb : b.IsWhole) (j : Fin n') (k : PG F α) : PG F α :=
  .op (.waitDma2 s (slot a i) (slot b j)
    ((ha.wordExact_slice rfl _ (slot_words i)).reshape _ _) ((hb.wordExact_slice rfl _ (slot_words j)).reshape _ _)) fun _ => k

/-- The block of 256 × 128 elements of the result at offset `o`. -/
abbrev outR (o : Fin 2 → ℕ) (h : ∀ a, o a + S256x128.size a ≤ S256x2048.size a) : Rect S256x2048 :=
  Rect.unit (s := S256x2048) o S256x128.size h
abbrev outB (o : Fin 2 → ℕ) (h : ∀ a, o a + S256x128.size a ≤ S256x2048.size a) : Memref sig .tc .vmem S256x128 .f32 :=
  bOut.slice (outR o h) (fun _ => rfl)

/-- Start the copy of slot `j` into the result's block at `o`, and wait for it. -/
def putO {n : ℕ} (a : Memref sig .tc .vmem (Slots n) .f32) (j : Fin n) (o : Fin 2 → ℕ)
    (h : ∀ a, o a + S256x128.size a ≤ S256x2048.size a) (s : DmaSem sig) (k : PG F α) : PG F α :=
  .op (.enqueueDma (slot a j) (.here (outB o h)) (.dma s) ((View.wordExact_bits rfl).reshape _ _) (View.wordExact_bits rfl)
    ⟨Or.inl rfl, trivial⟩) fun _ => k
def waitO {n : ℕ} (a : Memref sig .tc .vmem (Slots n) .f32) (j : Fin n) (o : Fin 2 → ℕ)
    (h : ∀ a, o a + S256x128.size a ≤ S256x2048.size a) (s : DmaSem sig) (k : PG F α) : PG F α :=
  .op (.waitDma2 s (slot a j) (outB o h) ((View.wordExact_bits rfl).reshape _ _) (View.wordExact_bits rfl)) fun _ => k

/-- The columns of chunk `j`. -/
theorem col_inb (j : Fin 4) : ∀ a, (![0, 128 * j.val] : Fin 2 → ℕ) a + S512x128.size a ≤ S512x512.size a := by
  intro a; fin_cases a <;> simp; omega
abbrev colR (j : Fin 4) : Rect S512x512 := Rect.unit (s := S512x512) ![0, 128 * j.val] S512x128.size (col_inb j)
abbrev allR : Rect S512x512 := Rect.unit (s := S512x512) ![0, 0] S512x512.size inb_S512x512_S512x512_0_0

/-- What one branch of the body names: the devices of its sixteen sends, in program order, and the
    places of the blocks of the result, by quarter and chunk. -/
structure Places where
  dev : Fin 16 → Dev nD
  off : Fin 4 → Fin 4 → Fin 2 → ℕ
  inb : ∀ q j a, off q j a + S256x128.size a ≤ S256x2048.size a

/-- Chunk `j`'s product: the kept half stored, the other half sent across `y`. -/
def prodStep (up : Bool) (d : Dev nD) (j : Fin 4) (k : PG F α) : PG F α :=
  .op (.load bX allR.toLoadRect (View.loadsAt_vmem h_S512x512)) fun x =>
  .op (.load bCol (colR j).toLoadRect (View.loadsAt_vmem h_S512x128)) fun b =>
  ld bKeep j fun _ => stF bKeep j (keepV up x b) <|
  ld bSend j fun _ => stB bSend (Memref.isWhole_whole _) j (sendV up x b) <|
  send d bSend (Memref.isWhole_whole _) j bYrecv (Memref.isWhole_whole _) j (sYs j) (sYr j) k

/-- Chunk `j`'s sum: wait for the half from across `y`, add, store in f32 and in bf16. -/
def sumStep (j : Fin 4) (k : PG F α) : PG F α :=
  waitS (sYr j) bSend (Memref.isWhole_whole _) j bYrecv (Memref.isWhole_whole _) j <|
  ld bKeep j fun a => ld bYrecv j fun r =>
  ld bRed j fun _ => stF bRed j (redV a r) <|
  ld bRed16 j fun _ => stB bRed16 (Memref.isWhole_whole _) j (red16V a r) k

/-- Send chunk `j`'s sum across `x`, and across `z`. -/
def sendX (d : Dev nD) (j : Fin 4) (k : PG F α) : PG F α :=
  send d bRed16 (Memref.isWhole_whole _) j bXm (Memref.isWhole_whole _) j (sXs j) (sXr j) k
def sendZ (d : Dev nD) (j : Fin 4) (k : PG F α) : PG F α :=
  send d bRed16 (Memref.isWhole_whole _) j bZm (Memref.isWhole_whole _) j (sZs j) (sZr j) k

/-- Wait for chunk `j` from across `x`, and from across `z`. -/
def waitX (j : Fin 4) (k : PG F α) : PG F α :=
  waitS (sXr j) bRed16 (Memref.isWhole_whole _) j bXm (Memref.isWhole_whole _) j k
def waitZ (j : Fin 4) (k : PG F α) : PG F α :=
  waitS (sZr j) bRed16 (Memref.isWhole_whole _) j bZm (Memref.isWhole_whole _) j k

/-- Chunks 2 and 3 arrived across `x` go on across `z`; chunks 0 and 1 arrived across `z` across `x`. -/
abbrev hi2 (i : Fin 2) : Fin 4 := ⟨2 + i.val, by omega⟩
abbrev lo2 (i : Fin 2) : Fin 4 := ⟨i.val, by omega⟩
def fwdZ (d : Dev nD) (i : Fin 2) (k : PG F α) : PG F α :=
  waitX (hi2 i) <| send d bXm (Memref.isWhole_whole _) (hi2 i) bZd (Memref.isWhole_whole _) i (sFzs i) (sFzr i) k
def fwdX (d : Dev nD) (i : Fin 2) (k : PG F α) : PG F α :=
  waitZ (lo2 i) <| send d bZm (Memref.isWhole_whole _) (lo2 i) bXd (Memref.isWhole_whole _) i (sFxs i) (sFxr i) k

/-- An arrived slot into f32, and on to its block of the result. -/
def convStep {n : ℕ} (a : Memref sig .tc .vmem (Slots n) .bf16) (i : Fin n) (b : Memref sig .tc .vmem S4x256x128 .f32) (j : Fin 4)
    (o : Fin 2 → ℕ) (h : ∀ a, o a + S256x128.size a ≤ S256x2048.size a) (s : DmaSem sig) (k : PG F α) : PG F α :=
  ld a i fun r => ld b j fun _ => stF b j (extV r) <| putO b j o h s k

/-- The number of the copy of quarter `q`'s chunk `j` into the result. -/
abbrev outK (q j : Fin 4) : Fin 16 := ⟨4 * q.val + j.val, by omega⟩

variable (P : Places) (up : Bool)

/-- Copy out chunk `j` of the own quarter. -/
def ownStep (j : Fin 4) (k : PG F α) : PG F α := putO bRed j (P.off 0 j) (P.inb 0 j) (sOut (outK 0 j)) k
def convX (j : Fin 4) (k : PG F α) : PG F α := convStep bXm j bCx j (P.off 1 j) (P.inb 1 j) (sOut (outK 1 j)) k
def convZ (j : Fin 4) (k : PG F α) : PG F α := convStep bZm j bCz j (P.off 2 j) (P.inb 2 j) (sOut (outK 2 j)) k
def convXd (i : Fin 2) (k : PG F α) : PG F α :=
  waitS (sFxr i) bZm (Memref.isWhole_whole _) (lo2 i) bXd (Memref.isWhole_whole _) i <|
  convStep bXd i bCd (lo2 i) (P.off 3 (lo2 i)) (P.inb 3 (lo2 i)) (sOut (outK 3 (lo2 i))) k
def convZd (i : Fin 2) (k : PG F α) : PG F α :=
  waitS (sFzr i) bXm (Memref.isWhole_whole _) (hi2 i) bZd (Memref.isWhole_whole _) i <|
  convStep bZd i bCd (hi2 i) (P.off 3 (hi2 i)) (P.inb 3 (hi2 i)) (sOut (outK 3 (hi2 i))) k

/-- Wait until chunk `j`'s three sends have left. -/
def drainS (j : Fin 4) (k : PG F α) : PG F α :=
  waitS (sYs j) bYrecv (Memref.isWhole_whole _) j bSend (Memref.isWhole_whole _) j <|
  waitS (sXs j) bXm (Memref.isWhole_whole _) j bRed16 (Memref.isWhole_whole _) j <|
  waitS (sZs j) bZm (Memref.isWhole_whole _) j bRed16 (Memref.isWhole_whole _) j k
/-- Wait until the two forwarded sends `i` have left. -/
def drainF (i : Fin 2) (k : PG F α) : PG F α :=
  waitS (sFxs i) bXd (Memref.isWhole_whole _) i bZm (Memref.isWhole_whole _) (lo2 i) <|
  waitS (sFzs i) bZd (Memref.isWhole_whole _) i bXm (Memref.isWhole_whole _) (hi2 i) k
/-- Wait for the four copies of chunk `j` into the result. -/
def drainO (j : Fin 4) (k : PG F α) : PG F α :=
  waitO bRed j (P.off 0 j) (P.inb 0 j) (sOut (outK 0 j)) <|
  waitO bCx j (P.off 1 j) (P.inb 1 j) (sOut (outK 1 j)) <|
  waitO bCz j (P.off 2 j) (P.inb 2 j) (sOut (outK 2 j)) <|
  waitO bCd j (P.off 3 j) (P.inb 3 j) (sOut (outK 3 j)) k

/-- One branch of the body, in four stretches: products and sums; sends and forwards; arrivals into
    the result; the waits at the end. -/
def impl1 (k : PG F α) : PG F α :=
  prodStep up (P.dev 0) 0 <| prodStep up (P.dev 1) 2 <| prodStep up (P.dev 2) 1 <| prodStep up (P.dev 3) 3 <|
  sumStep 0 <| sendZ (P.dev 4) 0 <| ownStep P 0 <|
  sumStep 2 <| sendX (P.dev 5) 2 <| ownStep P 2 <|
  sumStep 1 <| sendZ (P.dev 6) 1 <| ownStep P 1 <|
  sumStep 3 <| sendX (P.dev 7) 3 <| ownStep P 3 k
def impl2 (k : PG F α) : PG F α :=
  sendX (P.dev 8) 0 <| sendX (P.dev 9) 1 <| sendZ (P.dev 10) 2 <| sendZ (P.dev 11) 3 <|
  fwdZ (P.dev 12) 0 <| fwdZ (P.dev 13) 1 <| fwdX (P.dev 14) 0 <| fwdX (P.dev 15) 1 <|
  waitX 0 <| waitX 1 <| waitZ 2 <| waitZ 3 k
def impl3 (k : PG F α) : PG F α :=
  convX P 0 <| convZ P 0 <| convX P 1 <| convZ P 1 <| convX P 2 <| convZ P 2 <| convX P 3 <| convZ P 3 <|
  convXd P 0 <| convXd P 1 <| convZd P 0 <| convZd P 1 k
def impl4 (k : PG F α) : PG F α :=
  drainS 0 <| drainS 1 <| drainS 2 <| drainS 3 <| drainF 0 <| drainF 1 <|
  drainO P 0 <| drainO P 1 <| drainO P 2 <| drainO P 3 k
def impl (k : PG F α) : PG F α := impl1 P up <| impl2 P <| impl3 P <| impl4 P k

/-- The places the branch of the devices at `y = 0` names, and those of the branch at `y = 1`. -/
def places0 (c : Dev nD) (h : k0_cond1 c = 1#1) : Places where
  dev := ![⟨k0_dev4 c, k0_dev4_lt c h⟩, ⟨k0_dev5 c, k0_dev5_lt c h⟩, ⟨k0_dev6 c, k0_dev6_lt c h⟩, ⟨k0_dev7 c, k0_dev7_lt c h⟩,
    ⟨k0_dev8 c, k0_dev8_lt c h⟩, ⟨k0_dev9 c, k0_dev9_lt c h⟩, ⟨k0_dev10 c, k0_dev10_lt c h⟩, ⟨k0_dev11 c, k0_dev11_lt c h⟩,
    ⟨k0_dev12 c, k0_dev12_lt c h⟩, ⟨k0_dev13 c, k0_dev13_lt c h⟩, ⟨k0_dev14 c, k0_dev14_lt c h⟩, ⟨k0_dev15 c, k0_dev15_lt c h⟩,
    ⟨k0_dev16 c, k0_dev16_lt c h⟩, ⟨k0_dev17 c, k0_dev17_lt c h⟩, ⟨k0_dev18 c, k0_dev18_lt c h⟩, ⟨k0_dev19 c, k0_dev19_lt c h⟩]
  off q j := (![k0_off2 c, k0_off3 c, k0_off4 c, k0_off5 c] q) (BitVec.ofNat 32 (128 * j.val))
  inb q j := by fin_cases q <;> [exact k0_off2_inb c h j; exact k0_off3_inb c h j; exact k0_off4_inb c h j; exact k0_off5_inb c h j]
def places1 (c : Dev nD) (h : k0_cond2 c = 1#1) : Places where
  dev := ![⟨k0_dev20 c, k0_dev20_lt c h⟩, ⟨k0_dev21 c, k0_dev21_lt c h⟩, ⟨k0_dev22 c, k0_dev22_lt c h⟩, ⟨k0_dev23 c, k0_dev23_lt c h⟩,
    ⟨k0_dev24 c, k0_dev24_lt c h⟩, ⟨k0_dev25 c, k0_dev25_lt c h⟩, ⟨k0_dev26 c, k0_dev26_lt c h⟩, ⟨k0_dev27 c, k0_dev27_lt c h⟩,
    ⟨k0_dev28 c, k0_dev28_lt c h⟩, ⟨k0_dev29 c, k0_dev29_lt c h⟩, ⟨k0_dev30 c, k0_dev30_lt c h⟩, ⟨k0_dev31 c, k0_dev31_lt c h⟩,
    ⟨k0_dev32 c, k0_dev32_lt c h⟩, ⟨k0_dev33 c, k0_dev33_lt c h⟩, ⟨k0_dev34 c, k0_dev34_lt c h⟩, ⟨k0_dev35 c, k0_dev35_lt c h⟩]
  off q j := (![k0_off6 c, k0_off7 c, k0_off8 c, k0_off9 c] q) (BitVec.ofNat 32 (128 * j.val))
  inb q j := by fin_cases q <;> [exact k0_off6_inb c h j; exact k0_off7_inb c h j; exact k0_off8_inb c h j; exact k0_off9_inb c h j]

/-- The 512 columns a device multiplies. -/
abbrev colB (c : Dev nD) : Memref sig .tc .vmem S512x512 .f32 :=
  bDy.slice (Rect.unit (s := S512x2048) (k0_off1 c) S512x512.size (k0_off1_inb c)) (fun _ => rfl)

/-- The body on device `c`: its columns copied while its three partners are signalled, the three
    signals awaited, then the copy, then the branch of its half of the mesh (a number `v c` the
    printed text carries past the first branch is not read). -/
def bodyText (v : Dev nD → BitVec 32) : PG F PUnit :=
  .op .deviceId fun c =>
  .op (.enqueueDma (colB c) (.here bCol) (.dma sCol) (View.wordExact_bits rfl) (Memref.isWhole_whole _).wordExact
    ⟨Or.inl rfl, trivial⟩) fun _ =>
  (semSignalWord (⟨k0_dev1 c, k0_dev1_lt c⟩ : Dev nD) sBar 1#32 : PG F PUnit) >>= fun _ =>
  (semSignalWord (⟨k0_dev2 c, k0_dev2_lt c⟩ : Dev nD) sBar 1#32 : PG F PUnit) >>= fun _ =>
  (semSignalWord (⟨k0_dev3 c, k0_dev3_lt c⟩ : Dev nD) sBar 1#32 : PG F PUnit) >>= fun _ =>
  (semWaitWord sBar 3#32 : PG F PUnit) >>= fun _ =>
  .op (.waitDma2 sCol (colB c) bCol (View.wordExact_bits rfl) (Memref.isWhole_whole _).wordExact) fun _ =>
  (if h : k0_cond1 c = 1#1 then impl (places0 c h) false (.ret (v c)) else .ret (v c) : PG F (BitVec 32)) >>= fun _ =>
  (if h : k0_cond2 c = 1#1 then impl (places1 c h) true (.ret ⟨⟩) else .ret ⟨⟩)

set_option maxHeartbeats 0 in
set_option maxRecDepth 100000 in
/-- The printed body is this text. -/
theorem body_eq : ∃ v, (bodyAt0 (F := F) t0_0 : PG F PUnit) = bodyText v :=
  ⟨fun _ => _, rfl⟩

end Steps

end Cert.KernelIdeal.Swap

end
-- ==== Proof.Base.lean ====
/- The protocol of the exchange: the devices' partners, the contents every buffer comes to hold, the
   cells of the semaphores with what each landing hands over, what a device owes at launch and the
   order of the waits. -/
module

public import proofs.«01_k».proof.Proof.Text
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's, and the exchange's rounds with up to three duties a cell. -/
abbrev UB : Type := URounds (GSem nD τ sig) (Fin 3)
abbrev UU : Type := UR sig nD τ × UB
abbrev EP : Emb (UR sig nD τ) (MT nD τ sig Unit (Elt F) ℕ UU ℕ) := embL
abbrev ER : Emb UB (MT nD τ sig Unit (Elt F) ℕ UU ℕ) := embR
abbrev 𝒱₀ : Variants := Variants.none

/-- Propositions over the kernel's state. -/
abbrev SP (F : FTy → Type) := sProp (MT nD τ sig Unit (Elt F) ℕ UU ℕ)

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The mesh -/

set_option backward.proofsInPublic true in
/-- A device's partner across `y` (0), across `x` (1) and across the lowest bit of `z` (2). -/
def ptn (k : Fin 3) (c : Dev nD) : Dev nD := ⟨c.val ^^^ (![4, 8, 1] k), by revert c k; decide⟩

theorem ptn_ptn (k : Fin 3) (c : Dev nD) : ptn k (ptn k c) = c := by revert c k; decide
theorem ptn_comm (c : Dev nD) : ptn 1 (ptn 2 c) = ptn 2 (ptn 1 c) := by revert c; decide

/-- The partner map, as a rearrangement of the devices. -/
def ptnE (k : Fin 3) : Dev nD ≃ Dev nD := ⟨ptn k, ptn k, ptn_ptn k, ptn_ptn k⟩

/-- Whether a device is at `y = 1`. -/
def upB (c : Dev nD) : Bool := decide (c.val / 4 % 2 = 1)

set_option backward.proofsInPublic true in
/-- The quarter of the columns a device multiplies, and the quarters its partners do: across `x`
    (1), across `z` (2), across both (3). -/
def qtr (c : Dev nD) (q : Fin 4) : Fin 4 := ⟨(2 * (c.val / 8) + c.val % 2) ^^^ (![0, 2, 1, 3] q), by revert c q; decide⟩

/-- Where the block of quarter `q`'s chunk `j` lies in the result. -/
def offO (c : Dev nD) (q j : Fin 4) : Fin 2 → ℕ := ![0, 512 * (qtr c q).val + 128 * j.val]

theorem offO_inb (c : Dev nD) (q j : Fin 4) : ∀ a, offO c q j a + S256x128.size a ≤ S256x2048.size a := by
  intro a; have := (qtr c q).isLt; have := j.isLt
  fin_cases a <;> simp [offO]; omega

/-- The column block a device multiplies. -/
theorem off1_eq (c : Dev nD) : k0_off1 c = ![0, 512 * (qtr c 0).val] := by revert c; decide

/-! ## The cells -/

/-- The exchange's transfer semaphores, by what they count. -/
inductive Tag where
  | col
  | out (q j : Fin 4)
  | ys (j : Fin 4) | yr (j : Fin 4)
  | xs (j : Fin 4) | xr (j : Fin 4)
  | zs (j : Fin 4) | zr (j : Fin 4)
  | fxs (i : Fin 2) | fxr (i : Fin 2)
  | fzs (i : Fin 2) | fzr (i : Fin 2)
deriving DecidableEq

/-- The semaphore of a tag, and the tag of a semaphore. -/
def semOf : Tag → DmaSem sig
  | .col => sCol
  | .out q j => sOut (outK q j)
  | .ys j => sYs j | .yr j => sYr j
  | .xs j => sXs j | .xr j => sXr j
  | .zs j => sZs j | .zr j => sZr j
  | .fxs i => sFxs i | .fxr i => sFxr i
  | .fzs i => sFzs i | .fzr i => sFzr i

def tagOf (n : DmaSem sig) : Option Tag :=
  if n.val < 3 then none
  else if n.val < 4 then some .col
  else if n.val < 20 then some (.out (Fin.ofNat 4 ((n.val - 4) / 4)) (Fin.ofNat 4 (n.val - 4)))
  else if n.val < 24 then some (.ys (Fin.ofNat 4 n.val))
  else if n.val < 28 then some (.yr (Fin.ofNat 4 n.val))
  else if n.val < 32 then some (.xs (Fin.ofNat 4 n.val))
  else if n.val < 36 then some (.xr (Fin.ofNat 4 n.val))
  else if n.val < 40 then some (.zs (Fin.ofNat 4 n.val))
  else if n.val < 44 then some (.zr (Fin.ofNat 4 n.val))
  else if n.val < 46 then some (.fxs (Fin.ofNat 2 n.val))
  else if n.val < 48 then some (.fxr (Fin.ofNat 2 n.val))
  else if n.val < 50 then some (.fzs (Fin.ofNat 2 n.val))
  else some (.fzr (Fin.ofNat 2 n.val))

theorem tagOf_semOf (t : Tag) : tagOf (semOf t) = some t := by
  cases t with
  | col => rfl
  | out q j => revert q j; decide
  | ys j => revert j; decide
  | yr j => revert j; decide
  | xs j => revert j; decide
  | xr j => revert j; decide
  | zs j => revert j; decide
  | zr j => revert j; decide
  | fxs i => revert i; decide
  | fxr i => revert i; decide
  | fzs i => revert i; decide
  | fzr i => revert i; decide

/-- The direction a landing comes from, none for a semaphore a device signals itself. -/
def dirOf : Tag → Option (Fin 3)
  | .yr _ => some 0
  | .xr _ => some 1 | .fxr _ => some 1
  | .zr _ => some 2 | .fzr _ => some 2
  | _ => none

/-- The order of the waits: a device only waits on a semaphore lower than all it still owes. -/
def lvl : Tag → ℕ
  | .yr _ => 2
  | .xr _ => 3 | .zr _ => 3
  | .fxr _ => 4 | .fzr _ => 4
  | _ => 0

/-- Elements counted by each landing. -/
def amt : Tag → ℕ
  | .col => bCol.view.dmaCredit
  | .out _ _ => (outB ![0, 0] (by decide)).view.dmaCredit
  | .ys j => (slot bYrecv j).view.dmaCredit | .yr j => (slot bYrecv j).view.dmaCredit
  | .xs j => (slot bXm j).view.dmaCredit | .xr j => (slot bXm j).view.dmaCredit
  | .zs j => (slot bZm j).view.dmaCredit | .zr j => (slot bZm j).view.dmaCredit
  | .fxs i => (slot bXd i).view.dmaCredit | .fxr i => (slot bXd i).view.dmaCredit
  | .fzs i => (slot bZd i).view.dmaCredit | .fzr i => (slot bZd i).view.dmaCredit

theorem amt_pos (t : Tag) : 0 < amt t := by
  cases t <;> exact View.dmaCredit_pos _ (by decide)

abbrev barCell (c : Dev nD) : GSem nD τ sig := ((c : Thread nD τ), .reg sBar)
abbrev cell (c : Dev nD) (t : Tag) : GSem nD τ sig := ((c : Thread nD τ), .dma (semOf t))

/-! ## Contents -/

/-- A device's blocks of the two arguments, as staged. -/
def xC (c : Dev nD) : Vec F S512x512 .f32 := (win0_0.blk (0 : Fin 1)).view.read (Elt F) ((s₀ m ρ).mem ((c : Thread nD τ).loc main_arg0))
def dyC (c : Dev nD) : Vec F S512x2048 .f32 := (win0_1.blk (0 : Fin 1)).view.read (Elt F) ((s₀ m ρ).mem ((c : Thread nD τ).loc main_arg1))

/-- The rectangle of the columns a device multiplies, and what it reads of both arguments. -/
abbrev colBR (c : Dev nD) : Rect S512x2048 := Rect.unit (s := S512x2048) (k0_off1 c) S512x512.size (k0_off1_inb c)
def colC (c : Dev nD) : Vec F S512x512 .f32 := fun i => dyC m ρ c ((colBR c).emb i)
def xAll (c : Dev nD) : Vec F S512x512 .f32 := fun i => xC m ρ c (allR.emb i)
def chunkC (c : Dev nD) (j : Fin 4) : Vec F S512x128 .f32 := fun i => colC m ρ c ((colR j).emb i)

/-- Chunk `j` on device `c`: the half kept, the half sent, their sum with what arrived. -/
def keepC (c : Dev nD) (j : Fin 4) : Vec F S1x256x128 .f32 := keepV (upB c) (xAll m ρ c) (chunkC m ρ c j)
def sendC (c : Dev nD) (j : Fin 4) : Vec F S1x256x128 .bf16 := sendV (upB c) (xAll m ρ c) (chunkC m ρ c j)
def yrC (c : Dev nD) (j : Fin 4) : Vec F S1x256x128 .bf16 := sendC m ρ (ptn 0 c) j
def redC (c : Dev nD) (j : Fin 4) : Vec F S1x256x128 .f32 := redV (keepC m ρ c j) (yrC m ρ c j)
def red16C (c : Dev nD) (j : Fin 4) : Vec F S1x256x128 .bf16 := red16V (keepC m ρ c j) (yrC m ρ c j)
def xmC (c : Dev nD) (j : Fin 4) : Vec F S1x256x128 .bf16 := red16C m ρ (ptn 1 c) j
def zmC (c : Dev nD) (j : Fin 4) : Vec F S1x256x128 .bf16 := red16C m ρ (ptn 2 c) j
def dgC (c : Dev nD) (j : Fin 4) : Vec F S1x256x128 .bf16 := red16C m ρ (ptn 1 (ptn 2 c)) j

/-- The block of the result of quarter `q`'s chunk `j`. -/
def outC (c : Dev nD) : Fin 4 → Fin 4 → Vec F S1x256x128 .f32
  | 0, j => redC m ρ c j
  | 1, j => extV (xmC m ρ c j)
  | 2, j => extV (zmC m ρ c j)
  | 3, j => extV (dgC m ρ c j)

/-- The buffer it is copied from. -/
def srcO : Fin 4 → Memref sig .tc .vmem S4x256x128 .f32
  | 0 => bRed
  | 1 => bCx
  | 2 => bCz
  | 3 => bCd

/-- The place in a slot of an element of the 256 × 128 array. -/
abbrev sq : S256x128.Idx → S1x256x128.Idx := Shape.reshapeEquiv squeezes_S1x256x128_S256x128.numel_eq

/-! ## Resources -/

/-- Slot `j` of device `c`'s buffer holds `v`. -/
def sl {n : ℕ} {t : EltTy} (c : Dev nD) (b : Memref sig .tc .vmem (Slots n) t) (j : Fin n) (q : PosShare TreeShare)
    (v : Vec F S1x256x128 t) : SP F :=
  owns (c : Thread nD τ) (b.slice (slotR j) (fun _ => rfl)) q v

/-- It holds anything. -/
def anyS {n : ℕ} {t : EltTy} (c : Dev nD) (b : Memref sig .tc .vmem (Slots n) t) (j : Fin n) : SP F :=
  iprop(∃ v : Vec F S1x256x128 t, sl c b j fullShare v)

/-- The block of the result at quarter `q`, chunk `j` holds `v`; holds anything. -/
def blkO (c : Dev nD) (q j : Fin 4) (v : Vec F S1x256x128 .f32) : SP F :=
  owns (c : Thread nD τ) (outB (offO c q j) (offO_inb c q j)) fullShare (fun y => v (sq y))
def anyO (c : Dev nD) (q j : Fin 4) : SP F :=
  iprop(∃ v : Vec F S256x128 .f32, owns (c : Thread nD τ) (outB (offO c q j) (offO_inb c q j)) fullShare v)

instance sl_storable {n : ℕ} {t : EltTy} (c : Dev nD) (b : Memref sig .tc .vmem (Slots n) t) (j : Fin n) (q : PosShare TreeShare) (v) :
    BI.Storable (upEmb : UEmb _ (MT nD τ sig Unit (Elt F) ℕ UU ℕ)) (sl (F := F) c b j q v) := by unfold sl; infer_instance
instance anyS_storable {n : ℕ} {t : EltTy} (c : Dev nD) (b : Memref sig .tc .vmem (Slots n) t) (j : Fin n) :
    BI.Storable (upEmb : UEmb _ (MT nD τ sig Unit (Elt F) ℕ UU ℕ)) (anyS (F := F) c b j) := by unfold anyS; infer_instance
instance blkO_storable (c : Dev nD) (q j : Fin 4) (v) :
    BI.Storable (upEmb : UEmb _ (MT nD τ sig Unit (Elt F) ℕ UU ℕ)) (blkO (F := F) c q j v) := by unfold blkO; infer_instance

/-- What the landing counted by a tag hands its device. -/
def pay (c : Dev nD) : Tag → SP F
  | .col => iprop(owns (c : Thread nD τ) bCol fullShare (colC m ρ c) ∗ owns (c : Thread nD τ) (colB c) fullShare (colC m ρ c))
  | .out q j => iprop(blkO c q j (outC m ρ c q j) ∗ sl c (srcO q) j fullShare (outC m ρ c q j))
  | .ys j => sl c bSend j fullShare (sendC m ρ c j)
  | .yr j => sl c bYrecv j fullShare (yrC m ρ c j)
  | .xs j => sl c bRed16 j fullShare.left (red16C m ρ c j)
  | .xr j => sl c bXm j fullShare (xmC m ρ c j)
  | .zs j => sl c bRed16 j fullShare.right (red16C m ρ c j)
  | .zr j => sl c bZm j fullShare (zmC m ρ c j)
  | .fxs i => sl c bZm (lo2 i) fullShare.left (zmC m ρ c (lo2 i))
  | .fxr i => sl c bXd i fullShare (dgC m ρ c (lo2 i))
  | .fzs i => sl c bXm (hi2 i) fullShare.left (xmC m ρ c (hi2 i))
  | .fzr i => sl c bZd i fullShare (dgC m ρ c (hi2 i))

/-- What the signal of the partner in direction `k` hands device `c`: the partner's landing slots. -/
def barPay (c : Dev nD) : Fin 3 → SP F
  | 0 => iprop(anyS (ptn 0 c) bYrecv 0 ∗ anyS (ptn 0 c) bYrecv 1 ∗ anyS (ptn 0 c) bYrecv 2 ∗ anyS (ptn 0 c) bYrecv 3)
  | 1 => iprop(anyS (ptn 1 c) bXm 0 ∗ anyS (ptn 1 c) bXm 1 ∗ anyS (ptn 1 c) bXm 2 ∗ anyS (ptn 1 c) bXm 3
      ∗ anyS (ptn 1 c) bXd 0 ∗ anyS (ptn 1 c) bXd 1)
  | 2 => iprop(anyS (ptn 2 c) bZm 0 ∗ anyS (ptn 2 c) bZm 1 ∗ anyS (ptn 2 c) bZm 2 ∗ anyS (ptn 2 c) bZm 3
      ∗ anyS (ptn 2 c) bZd 0 ∗ anyS (ptn 2 c) bZd 1)

instance pay_storable (c : Dev nD) (t : Tag) :
    BI.Storable (upEmb : UEmb _ (MT nD τ sig Unit (Elt F) ℕ UU ℕ)) (pay m ρ c t) := by
  cases t <;> (unfold pay; infer_instance)
instance barPay_storable (c : Dev nD) (k : Fin 3) :
    BI.Storable (upEmb : UEmb _ (MT nD τ sig Unit (Elt F) ℕ UU ℕ)) (barPay (F := F) c k) := by
  fin_cases k <;> (unfold barPay; infer_instance)

/-! ## The schedule -/

def dutiesD (n : DmaSem sig) : Finset (Fin 3) := if (tagOf n).isSome then {0} else ∅
def amountD (n : DmaSem sig) : ℕ := ((tagOf n).map amt).getD 1
def payT (c : Dev nD) : Option Tag → SP F
  | some t => pay m ρ c t
  | none => iprop(emp)
def dutiesOf : SemLoc sig → Finset (Fin 3)
  | .reg s => if s = sBar then Finset.univ else ∅
  | .dma n => dutiesD n
def amountOf : SemLoc sig → ℕ
  | .reg _ => 1
  | .dma n => amountD n
def payOf (c : Dev nD) : SemLoc sig → Fin 3 → SP F
  | .reg _, d => barPay c d
  | .dma n, _ => payT m ρ c (tagOf n)

theorem amountOf_pos (s : SemLoc sig) : 0 < amountOf s := by
  cases s with
  | reg s => exact Nat.one_pos
  | dma n =>
    show 0 < amountD n
    unfold amountD
    cases h : tagOf n with
    | none => exact Nat.one_pos
    | some t => exact amt_pos t

/-- One round: the barrier cell's three duties of one unit, and each transfer cell's one duty. -/
def Rd : Rounds.Schedule (GSem nD τ sig) (Fin 3) (MT nD τ sig Unit (Elt F) ℕ UU ℕ) where
  duties g r := if r = 0 ∧ g.1.2 = .tc then dutiesOf g.2 else ∅
  unitless _ := False
  amount g _ _ := amountOf g.2
  payload g _ d := payOf m ρ g.1.1 g.2 d
  amount_pos g _ _ _ := amountOf_pos g.2

instance Rd_payload_storable (g : GSem nD τ sig) (r : ℕ) (d : Fin 3) :
    BI.Storable (upEmb : UEmb _ (MT nD τ sig Unit (Elt F) ℕ UU ℕ)) ((Rd (F := F) m ρ).payload g r d) := by
  show BI.Storable upEmb (payOf m ρ g.1.1 g.2 d)
  cases h : g.2 with
  | reg s => show BI.Storable upEmb (barPay g.1.1 d); infer_instance
  | dma n =>
    show BI.Storable upEmb (payT m ρ g.1.1 (tagOf n))
    cases h : tagOf n with
    | none => show BI.Storable upEmb (iprop(emp) : SP F); infer_instance
    | some t => show BI.Storable upEmb (pay m ρ g.1.1 t); infer_instance

theorem duties_zero (c : Dev nD) (sm : SemLoc sig) : (Rd (F := F) m ρ).duties ((c : Thread nD τ), sm) 0 = dutiesOf sm := by
  unfold Rd; dsimp only; exact if_pos ⟨rfl, rfl⟩
theorem duties_bar (c : Dev nD) : (Rd (F := F) m ρ).duties (barCell c) 0 = Finset.univ :=
  (duties_zero m ρ c _).trans (by unfold dutiesOf; dsimp only; exact if_pos rfl)
theorem duties_cell (c : Dev nD) (t : Tag) : (Rd (F := F) m ρ).duties (cell c t) 0 = {0} := by
  refine (duties_zero m ρ c _).trans ?_
  show dutiesD (semOf t) = _
  unfold dutiesD; rw [tagOf_semOf]; rfl
theorem duties_later (g : GSem nD τ sig) : ∀ r, 1 ≤ r → (Rd (F := F) m ρ).duties g r = ∅ :=
  fun r hr => if_neg fun h => by omega
theorem amountOf_cell (t : Tag) : amountOf (.dma (semOf t)) = amt t := by
  show amountD (semOf t) = _
  unfold amountD; rw [tagOf_semOf]; rfl
theorem payload_cell (c : Dev nD) (t : Tag) : (Rd (F := F) m ρ).payload (cell c t) 0 0 = pay m ρ c t := by
  show payT m ρ c (tagOf (semOf t)) = _
  rw [tagOf_semOf]; rfl
theorem expect_bar (c : Dev nD) : (Rd (F := F) m ρ).expect (barCell c) 0 = 3 := by
  unfold Schedule.expect Schedule.amountOf
  rw [duties_bar]; rfl
theorem expect_cell (c : Dev nD) (t : Tag) : (Rd (F := F) m ρ).expect (cell c t) 0 = amt t := by
  unfold Schedule.expect Schedule.amountOf
  rw [duties_cell, Finset.sum_singleton]; exact amountOf_cell t
theorem rest_bar (c : Dev nD) : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
theorem rest_cell (c : Dev nD) (t : Tag) : bigSep ((Rd (F := F) m ρ).duties (cell c t) 0 \ ∅) (fun d => (Rd (F := F) m ρ).payload (cell c t) 0 d)
    = pay m ρ c t := by
  rw [Finset.sdiff_empty, duties_cell, bigSep_singleton, payload_cell]

/-! ## What a device owes, and the order of the waits -/

/-- What a device owes: its cells' amounts, the first to be paid first. -/
def oweL : List (GSem nD τ sig) → CellTallies nD τ sig Unit
  | [] => 0
  | g :: gs => oweL gs + tallyAt g () (amountOf g.2)
theorem oweL_cons (g : GSem nD τ sig) (gs : List (GSem nD τ sig)) : oweL (g :: gs) = oweL gs + tallyAt g () (amountOf g.2) := rfl

/-- A device's payments to its partners, in program order, by direction. -/
def dues : List (Fin 3 × SemLoc sig) :=
  [(0, .reg sBar), (1, .reg sBar), (2, .reg sBar),
   (0, .dma (semOf (.yr 0))), (0, .dma (semOf (.yr 2))), (0, .dma (semOf (.yr 1))), (0, .dma (semOf (.yr 3))),
   (2, .dma (semOf (.zr 0))), (1, .dma (semOf (.xr 2))), (2, .dma (semOf (.zr 1))), (1, .dma (semOf (.xr 3))),
   (1, .dma (semOf (.xr 0))), (1, .dma (semOf (.xr 1))), (2, .dma (semOf (.zr 2))), (2, .dma (semOf (.zr 3))),
   (2, .dma (semOf (.fzr 0))), (2, .dma (semOf (.fzr 1))), (1, .dma (semOf (.fxr 0))), (1, .dma (semOf (.fxr 1)))]
def owedL (c : Dev nD) (l : List (Fin 3 × SemLoc sig)) : List (GSem nD τ sig) := l.map fun p => ((ptn p.1 c : Thread nD τ), p.2)
def O₀ (c : Dev nD) : CellTallies nD τ sig Unit := oweL (owedL c dues)

def L (g : GSem nD τ sig) : Finset Unit := if g.1.2 = .tc then {()} else ∅
def lvlD (n : DmaSem sig) : ℕ := ((tagOf n).map lvl).getD 0
def lvlOf : SemLoc sig → ℕ
  | .reg _ => 1
  | .dma n => lvlD n
def lv (g : GSem nD τ sig) (_ : Unit) : ℕ := lvlOf g.2

theorem L_of_ne (g : GSem nD τ sig) (h : g.1.2 ≠ .tc) : L g = ∅ := if_neg h
theorem lvlOf_cell (t : Tag) : lvlOf (.dma (semOf t)) = lvl t := by
  show lvlD (semOf t) = _
  unfold lvlD; rw [tagOf_semOf]; rfl

theorem oweL_pos {gs : List (GSem nD τ sig)} {g : GSem nD τ sig} {u : Unit} (h : 0 < oweL gs g u) : g ∈ gs := by
  induction gs with
  | nil => exact absurd h (Nat.lt_irrefl 0)
  | cons a gs ih =>
    unfold oweL at h
    rw [Pi.add_apply, Finsupp.add_apply, tallyAt_apply] at h
    by_cases hg : g = a ∧ u = ()
    · rw [hg.1]; exact List.mem_cons_self
    · rw [if_neg hg, Nat.add_zero] at h; exact List.mem_cons_of_mem _ (ih h)

/-- A device may wait at a level below all it owes. -/
theorem mayWait (c : Dev nD) (sm : SemLoc sig) (l : List (Fin 3 × SemLoc sig)) (h : ∀ p ∈ l, lvlOf sm < lvlOf p.2) :
    (levAts L lv : SP F) ⊢ MayWait (c : Thread nD τ) sm () (oweL (owedL c l)) := by
  refine MayOwe.of_cut (L := L) (lev := lv) (lvlOf sm) (fun p hp => by rw [Finset.mem_singleton.mp hp]; exact Finset.mem_singleton_self _)
    (fun g u hg => ?_) (fun p hp => by rw [Finset.mem_singleton.mp hp]; exact le_refl _) (fun g u hg => ?_)
  · obtain ⟨p, -, rfl⟩ := List.mem_map.mp (oweL_pos hg); exact Finset.mem_singleton_self _
  · obtain ⟨p, hp, rfl⟩ := List.mem_map.mp (oweL_pos hg); exact h p hp

end Cert.KernelIdeal.Swap

end
-- ==== Proof.Ops.lean ====
/- The steps' rules: a device's cells' invariants, what it holds of each, and what one step — a wait,
   a copy, a send, a load, a store — takes and leaves. -/
module

public import proofs.«01_k».proof.Proof.Base

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What is known of the cells -/

/-- The exchange's semaphores, numbered: the barrier's, then the transfers'. -/
def csem (k : Fin 50) : SemLoc sig := if k.val = 0 then .reg sBar else .dma ⟨k.val + 2, by have := k.isLt; show k.val + 2 < 52; omega⟩
abbrev kcell (p : Dev nD × Fin 50) : GSem nD τ sig := ((p.1 : Thread nD τ), csem p.2)

/-- A cell's invariant, and that its round 0 is reached. -/
def inv (g : GSem nD τ sig) : SP F := iprop((∃ κ, cellInv ER (Rd m ρ) κ g) ∗ reached ER g 0)
instance inv_persistent (g : GSem nD τ sig) : BI.Persistent (inv (F := F) m ρ g) := by unfold inv; infer_instance

/-- Every device's cells' invariants, and the order of the waits. -/
def env : SP F := iprop(bigSep Finset.univ (fun p : Dev nD × Fin 50 => inv m ρ (kcell p)) ∗ levAts L lv)
instance env_persistent : BI.Persistent (env (F := F) m ρ) := by unfold env; infer_instance

theorem csem_bar : csem 0 = .reg sBar := if_pos rfl
theorem semOf_ge (t : Tag) : 3 ≤ (semOf t).val := by
  cases t with
  | col => decide
  | out q j => revert q j; decide
  | ys j => revert j; decide
  | yr j => revert j; decide
  | xs j => revert j; decide
  | xr j => revert j; decide
  | zs j => revert j; decide
  | zr j => revert j; decide
  | fxs i => revert i; decide
  | fxr i => revert i; decide
  | fzs i => revert i; decide
  | fzr i => revert i; decide
theorem csem_cell (t : Tag) : ∃ k, csem k = .dma (semOf t) := by
  have h := semOf_ge t
  have h2 : (semOf t).val < 52 := (semOf t).isLt
  refine ⟨⟨(semOf t).val - 2, by omega⟩, ?_⟩
  unfold csem
  rw [if_neg (by show ¬ ((semOf t).val - 2 = 0); omega)]
  exact congrArg SemLoc.dma (Fin.ext (by show (semOf t).val - 2 + 2 = _; omega))

theorem env_bar (c : Dev nD) : env (F := F) m ρ ⊢ inv m ρ (barCell c) := by
  unfold env
  refine (BIBase.Entails.trans sep_elim_left (bigSep_elim (Finset.mem_univ (c, (0 : Fin 50))))).trans ?_
  rw [show kcell (c, (0 : Fin 50)) = barCell c from by unfold kcell; rw [csem_bar]]
theorem env_cell (c : Dev nD) (t : Tag) : env (F := F) m ρ ⊢ inv m ρ (cell c t) := by
  unfold env
  obtain ⟨k, hk⟩ := csem_cell t
  refine (BIBase.Entails.trans sep_elim_left (bigSep_elim (Finset.mem_univ (c, k)))).trans ?_
  rw [show kcell (c, k) = cell c t from by unfold kcell; rw [hk]]
theorem env_lev : env (F := F) m ρ ⊢ levAts L lv := by unfold env; exact sep_elim_right

/-! ## What a device holds of the cells -/

/-- The device whose cell a device pays at a tag: its partner's for a landing, its own otherwise. -/
def payee (t : Tag) (c : Dev nD) : Dev nD := match dirOf t with
  | some k => ptn k c
  | none => c

/-- The right to pay at a tag; the place at the own cell with the credit for it; the place alone;
    the counter, the cell closed. -/
def tok (c : Dev nD) (t : Tag) : SP F := dutyTok ER (cell (payee t c) t) 0 0
def pos (c : Dev nD) (t : Tag) : SP F := atPos ER (cell c t) 0 ∅ 0
def wt (c : Dev nD) (t : Tag) : SP F := iprop(cred (tallyAt (cell c t) () (amt t)) ∗ pos c t)
def kit (c : Dev nD) (t : Tag) : SP F := iprop(tok c t ∗ pos c t)
def zero (c : Dev nD) (t : Tag) : SP F := semVal (cell c t) 0

/-- What a device owes, whatever it has waited for. -/
def owesL (c : Dev nD) (l : List (Fin 3 × SemLoc sig)) : SP F := iprop(∃ W, owes (c : Thread nD τ) (oweL (owedL c l)) W)

section Rules
variable {α : Type} {Q : α → SP F}

/-- A run of the kernel's program on device `c`. -/
abbrev run (c : Dev nD) (p : PG F α) (Q : α → SP F) : SP F := wp frame (wpE (defs₀ (F := F)) 𝒱₀ (c : Thread nD τ) none) Set.univ p Q

set_option maxRecDepth 10000 in
/-- A wait for a landing: its payload, and the cell closed. -/
theorem st_wait (c : Dev nD) (t : Tag) (l : List (Fin 3 × SemLoc sig)) (hl : ∀ p ∈ l, lvl t < lvlOf p.2)
    {sp sp' : Space} {s s' : Shape} {e e' : EltTy}
    {a : Memref sig .tc sp s e} {b : Memref sig .tc sp' s' e'} {ha : a.view.WordExact} {hb : b.view.WordExact} {k : PUnit → PG F α}
    (hn : b.view.dmaCredit = amt t) :
    iprop(env m ρ ∗ wt c t ∗ owesL c l ∗ ((zero c t ∗ pay m ρ c t ∗ owesL c l) -∗ run c (k ⟨⟩) Q))
      ⊢ run c (.op (.waitDma2 (semOf t) a b ha hb) k) Q := by
  iintro ⟨#He, Hw, HO, Hk⟩
  ihave #Hi := (env_cell m ρ c t) $$ He
  ihave #Hlev := (env_lev (F := F) m ρ) $$ He
  unfold inv wt pos owesL
  icases Hi with ⟨⟨%κ, #Hi⟩, #Hr⟩
  icases Hw with ⟨Hc, Hat⟩
  icases HO with ⟨%W, HO⟩
  iapply (Rounds.wp_wait_rest_token 𝒱₀ ER (Rd m ρ) (c : Thread nD τ) none (κ := κ)
      (wpE_waitDma2_eq 𝒱₀ (c : Thread nD τ) none Set.univ) (Set.mem_univ _) () (O := oweL (owedL c l)) (W := W) (R := 0) (m := 0) (T := ∅)
      (by rw [Nat.zero_add, hn, expect_cell])) $$ [Hc HO Hat]
  · isplitr; · iexact Hi
    isplitl [Hc]; · rw [hn]; iexact Hc
    isplitl [HO]; · iexact HO
    isplitr; · iapply (mayWait c (.dma (semOf t)) l (by rw [lvlOf_cell]; exact hl)); iexact Hlev
    iexact Hat
  iintro ⟨HO, Hat, -, Hp⟩
  ihave Hp := (Entails.of_eq (rest_cell m ρ c t)) $$ Hp
  imod (Rounds.cell_close ER (Rd m ρ) (Set.mem_univ κ) (fun h => h) (R := 0 + 1) (duties_later m ρ (cell c t))) $$ [Hat] with Hz
  · isplitr; · iexact Hi
    iexact Hat
  iapply Hk
  unfold zero
  isplitl [Hz]; · iexact Hz
  isplitl [Hp]; · iexact Hp
  iexists _; iexact HO

/-! ### Slots -/

theorem sq_surj (x : S1x256x128.Idx) : ∃ y, sq y = x := (Shape.reshapeEquiv squeezes_S1x256x128_S256x128.numel_eq).surjective x

/-- A slot owned as the 256 × 128 array a copy takes. -/
theorem owns_sq {t : EltTy} (c : Dev nD) (b : Memref sig .tc .vmem S1x256x128 t) (q : PosShare TreeShare) (v : Vec F S1x256x128 t) :
    (owns (c : Thread nD τ) (b.squeeze S256x128 squeezes_S1x256x128_S256x128) q (fun y => v (sq y)) : SP F)
      = owns (c : Thread nD τ) b q v := by
  have e : @Eq (Finset (Idx (b.view.loc (c : Thread nD τ)))) (b.squeeze S256x128 squeezes_S1x256x128_S256x128).view.set b.view.set :=
    View.set_reshape _ _
  show iprop(∃ f : Buf (Elt F) (b.view.loc (c : Thread nD τ)), ⌜(fun y => b.view.read (Elt F) f (sq y)) = fun y => v (sq y)⌝
    ∗ (b.view.loc (c : Thread nD τ) ↦[(b.squeeze S256x128 squeezes_S1x256x128_S256x128).view.set]{q} f)) = _
  rw [e]
  unfold owns
  congr 1; funext f
  have h : ((fun y => b.view.read (Elt F) f (sq y)) = fun y => v (sq y)) ↔ b.view.read (Elt F) f = v :=
    ⟨fun h => funext fun x => by obtain ⟨y, rfl⟩ := sq_surj x; exact congrFun h y, fun h => by rw [h]⟩
  rw [propext h]
theorem sl_sq {n : ℕ} {t : EltTy} (c : Dev nD) (b : Memref sig .tc .vmem (Slots n) t) (j : Fin n) (q : PosShare TreeShare) (v : Vec F S1x256x128 t) :
    (sl c b j q v : SP F) = owns (c : Thread nD τ) (slot b j) q (fun y => v (sq y)) := (owns_sq c _ q v).symm

/-- A load of a slot. -/
theorem st_ld (c : Dev nD) {n : ℕ} {t : EltTy} (b : Memref sig .tc .vmem (Slots n) t) (j : Fin n) (q : PosShare TreeShare)
    (v : Vec F S1x256x128 t) {k : Vec F S1x256x128 t → PG F α} :
    iprop(sl c b j q v ∗ (sl c b j q v -∗ run c (k v) Q)) ⊢ run c (ld b j k) Q := by
  unfold sl ld owns
  iintro ⟨⟨%f, %hf, H⟩, Hk⟩
  iapply (wp_load_rect 𝒱₀ (c : Thread nD τ) none Set.univ (m := b) (r := slotR j) (Finset.Subset.refl _)) $$ H; iintro H
  rw [show (b.access (slotR j)).read (Elt F) f = v from hf]
  iapply Hk
  iexists f; isplitr; · ipureintro; exact hf
  iexact H

/-- A load of a slot that holds anything. -/
theorem st_ld_any (c : Dev nD) {n : ℕ} {t : EltTy} (b : Memref sig .tc .vmem (Slots n) t) (j : Fin n)
    {k : PG F α} :
    iprop(anyS c b j ∗ (anyS c b j -∗ run c k Q)) ⊢ run c (ld b j fun _ => k) Q := by
  unfold anyS
  iintro ⟨⟨%v, H⟩, Hk⟩
  iapply (st_ld c b j fullShare v)
  isplitl [H]; · iexact H
  iintro H
  iapply Hk
  iexists v; iexact H

/-- A store of a slot. -/
theorem st_stF (c : Dev nD) {n : ℕ} (b : Memref sig .tc .vmem (Slots n) .f32) (j : Fin n)
    (v : Vec F S1x256x128 .f32) {k : PG F α} :
    iprop(anyS c b j ∗ (sl c b j fullShare v -∗ run c k Q)) ⊢ run c (stF b j v k) Q := by
  unfold anyS sl stF owns
  iintro ⟨⟨%w, %f, %hf, H⟩, Hk⟩
  iapply (wp_store 𝒱₀ (c : Thread nD τ) none Set.univ (m := b) (r := slotR j) (Mk := Finset.univ)
    (S := (b.slice (slotR j) (fun _ => rfl)).view.set) (View.setOn_subset_set _ _)) $$ H; iintro H
  iapply Hk
  iexists _; isplitr; · ipureintro; exact View.read_write_univ (v := (b.access (slotR j))) f v
  iexact H
theorem st_stB (c : Dev nD) {n : ℕ} (b : Memref sig .tc .vmem (Slots n) .bf16) (hb : b.IsWhole) (j : Fin n)
    (v : Vec F S1x256x128 .bf16) {k : PG F α} :
    iprop(anyS c b j ∗ (sl c b j fullShare v -∗ run c k Q)) ⊢ run c (stB b hb j v k) Q := by
  unfold anyS sl stB owns
  iintro ⟨⟨%w, %f, %hf, H⟩, Hk⟩
  iapply (wp_store 𝒱₀ (c : Thread nD τ) none Set.univ (m := b) (r := slotR j) (Mk := Finset.univ)
    (S := (b.slice (slotR j) (fun _ => rfl)).view.set) (View.setOn_subset_set _ _)) $$ H; iintro H
  iapply Hk
  iexists _; isplitr; · ipureintro; exact View.read_write_univ (v := (b.access (slotR j))) f v
  iexact H

/-- A load of a whole rectangle of a memref owned. -/
theorem st_load (c : Dev nD) {s : Shape} {t : EltTy} (b : Memref sig .tc .vmem s t) (r : Rect s) (hl : b.view.LoadsAt r.toLoadRect)
    (q : PosShare TreeShare) (X : Vec F s t) {k : Vec F r.shape t → PG F α} :
    iprop(owns (c : Thread nD τ) b q X ∗ (owns (c : Thread nD τ) b q X -∗ run c (k fun i => X (r.emb i)) Q))
      ⊢ run c (.op (.load b r.toLoadRect hl) k) Q := by
  unfold owns
  iintro ⟨⟨%f, %hf, H⟩, Hk⟩
  subst hf
  iapply (wp_load_rect 𝒱₀ (c : Thread nD τ) none Set.univ (m := b) (r := r) (by exact View.set_slice_subset _ _)) $$ H; iintro H
  iapply Hk
  iexists f; isplitr; · (ipureintro; rfl)
  iexact H

/-- The send of a slot to a partner's slot: the credit of the own cell, the partner's cell paid. -/
theorem st_send (c : Dev nD) (d : Fin 3) (ts tr : Tag) (hts : dirOf ts = none) (htr : dirOf tr = some d) (l : List (Fin 3 × SemLoc sig))
    {n n' : ℕ} (a : Memref sig .tc .vmem (Slots n) .bf16) (ha : a.IsWhole) (i : Fin n)
    (b : Memref sig .tc .vmem (Slots n') .bf16) (hb : b.IsWhole) (j : Fin n') (q : PosShare TreeShare) (v : Vec F S1x256x128 .bf16)
    (hns : (slot b j).view.dmaCredit = amt ts) (hnr : (slot b j).view.dmaCredit = amt tr)
    (hps : sl c a i q v ⊢ pay m ρ c ts) (hpr : sl (ptn d c) b j fullShare v ⊢ pay m ρ (ptn d c) tr) {k : PG F α} :
    iprop(env m ρ ∗ sl c a i q v ∗ anyS (ptn d c) b j ∗ kit c ts ∗ tok c tr ∗ owesL c ((d, .dma (semOf tr)) :: l)
        ∗ ((wt c ts ∗ owesL c l) -∗ run c k Q))
      ⊢ run c (send (ptn d c) a ha i b hb j (semOf ts) (semOf tr) k) Q := by
  iintro ⟨#He, Ha, Hb, Hs, Ht, HO, Hk⟩
  ihave #His := (env_cell m ρ c ts) $$ He
  ihave #Hir := (env_cell m ρ (ptn d c) tr) $$ He
  unfold inv wt kit tok owesL anyS send payee
  rw [hts, htr]
  dsimp only
  icases His with ⟨⟨%κs, #His⟩, #Hrs⟩
  icases Hir with ⟨⟨%κr, #Hir⟩, #Hrr⟩
  icases Hs with ⟨Hts, Hat⟩
  icases HO with ⟨%W, HO⟩
  icases Hb with ⟨%w, Hb⟩
  ihave Ha := (Entails.of_eq (sl_sq c a i q v)) $$ Ha
  ihave Hb := (Entails.of_eq (sl_sq (ptn d c) b j fullShare w)) $$ Hb
  unfold owns
  icases Ha with ⟨%fs, %hfs, Ha⟩
  icases Hb with ⟨%fd, -, Hb⟩
  iapply (Rounds.wp_send_pointsTo 𝒱₀ ER (Rd m ρ) (c : Thread nD τ) none (c' := (ptn d c : Thread nD τ)) (src := slot a i) (dst := slot b j)
      (sS := .dma (semOf ts)) (sem := .dma (semOf tr)) (κ₁ := κs) (κ₂ := κr) (d₁ := 0) (d₂ := 0) (r₁ := 0) (r₂ := 0) (q := q) (fs := fs) (fd := fd)
      (by rw [duties_cell]; exact Finset.mem_singleton_self _) (by rw [duties_cell]; exact Finset.mem_singleton_self _)
      () () (amt ts) hns (amountOf_cell ts) ((amountOf_cell tr).trans (hnr.symm.trans hns)) (oweL (owedL c l))
      (by
        refine (oweL_cons (cell (ptn d c) tr) (owedL c l)).trans ?_
        rw [show amountOf (cell (ptn d c) tr).2 = amt ts from (amountOf_cell tr).trans (hnr.symm.trans hns)])
      (W := W) (by
        rw [payload_cell]
        refine .trans ?_ hps
        rw [sl_sq]; unfold owns
        iintro H; iexists fs; isplitr; · ipureintro; exact hfs
        iexact H) (by
        rw [payload_cell]
        refine .trans ?_ hpr
        rw [sl_sq]; unfold owns
        iintro H; iexists _; isplitr; · ipureintro; exact (View.read_write_univ (v := (slot b j).view) fd _).trans hfs
        iexact H)) $$ [Ha Hb HO Hts Ht]
  · isplitr; · iexact His
    isplitr; · iexact Hir
    isplitl [Ha]; · iexact Ha
    isplitl [Hb]; · iexact Hb
    isplitl [HO]; · iexact HO
    isplitl [Hts]; · iexact Hts
    isplitr; · iexact Hrs
    isplitl [Ht]; · iexact Ht
    iexact Hrr
  iintro ⟨Hc, HO⟩
  iapply Hk
  isplitl [Hc Hat]
  · isplitl [Hc]; · iexact Hc
    iexact Hat
  iexists W; iexact HO

/-- The copy of a slot into its block of the result. -/
theorem st_put (c : Dev nD) (q j : Fin 4) (v : Vec F S1x256x128 .f32) (hp : outC m ρ c q j = v) {k : PG F α} :
    iprop(env m ρ ∗ sl c (srcO q) j fullShare v ∗ anyO c q j ∗ kit c (.out q j) ∗ (wt c (.out q j) -∗ run c k Q))
      ⊢ run c (putO (srcO q) j (offO c q j) (offO_inb c q j) (sOut (outK q j)) k) Q := by
  subst hp
  iintro ⟨#He, Ha, Hb, Hs, Hk⟩
  ihave #His := (env_cell m ρ c (.out q j)) $$ He
  unfold inv wt kit tok anyO putO payee dirOf
  dsimp only
  icases His with ⟨⟨%κs, #His⟩, #Hrs⟩
  icases Hs with ⟨Hts, Hat⟩
  icases Hb with ⟨%w, Hb⟩
  ihave Ha := (Entails.of_eq (sl_sq c (srcO q) j fullShare (outC m ρ c q j))) $$ Ha
  unfold owns
  icases Ha with ⟨%fs, %hfs, Ha⟩
  icases Hb with ⟨%fd, -, Hb⟩
  iapply (Rounds.wp_copy_pointsTo 𝒱₀ ER (Rd m ρ) (c : Thread nD τ) none (src := slot (srcO q) j) (dst := outB (offO c q j) (offO_inb c q j))
      (sem := .dma (semOf (.out q j)))
      (κ := κs) (d := 0) (r := 0) (q := fullShare) (fs := fs) (fd := fd)
      (by rw [duties_cell]; exact Finset.mem_singleton_self _)
      () (amt (.out q j)) rfl (amountOf_cell (.out q j)) (by
        rw [payload_cell]
        show _ ⊢ iprop(blkO c q j (outC m ρ c q j) ∗ sl c (srcO q) j fullShare (outC m ρ c q j))
        rw [sl_sq]; unfold blkO owns
        iintro ⟨Hb, Ha⟩
        isplitl [Hb]
        · iexists _; isplitr
          · ipureintro
            exact (View.read_write_univ (v := (outB (offO c q j) (offO_inb c q j)).view) fd ((slot (srcO q) j).view.read (Elt F) fs)).trans hfs
          iexact Hb
        iexists fs; isplitr; · ipureintro; exact hfs
        iexact Ha)) $$ [Ha Hb Hts]
  · isplitr; · iexact His
    isplitl [Ha]; · iexact Ha
    isplitl [Hb]; · iexact Hb
    isplitl [Hts]; · iexact Hts
    iexact Hrs
  iintro Hc
  iapply Hk
  isplitl [Hc]; · iexact Hc
  iexact Hat

end Rules

end Cert.KernelIdeal.Swap

end
-- ==== Proof.Steps.lean ====
/- The kernel's steps: what each of the body's named steps takes and leaves on device `c`. -/
module

public import proofs.«01_k».proof.Proof.Ops

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The directions of the sixteen sends, in program order; the places one branch names, by device. -/
def dirs : Fin 16 → Fin 3 := ![0, 0, 0, 0, 2, 1, 2, 1, 1, 1, 2, 2, 2, 2, 1, 1]
def placesC (c : Dev nD) : Places where
  dev i := ptn (dirs i) c
  off := offO c
  inb := offO_inb c

/-- What is owed after `n` payments. -/
def owesN (c : Dev nD) (n : ℕ) : SP F := owesL c (dues.drop n)

/-- A device's blocks of `x`, whole, and of its columns of `dy`. -/
def ownX (c : Dev nD) : SP F := owns (c : Thread nD τ) bX fullShare (xC m ρ c)
def ownC (c : Dev nD) : SP F := owns (c : Thread nD τ) bCol fullShare (colC m ρ c)

attribute [local irreducible] wt kit tok pos zero owesL

section Rules
variable {α : Type} {Q : α → SP F} {k : PG F α}

/-- Forget what a slot holds. -/
theorem sl_any (c : Dev nD) {n : ℕ} {t : EltTy} (b : Memref sig .tc .vmem (Slots n) t) (j : Fin n) (v : Vec F S1x256x128 t) :
    sl c b j fullShare v ⊢ anyS c b j := by unfold anyS; iintro H; iexists v; iexact H

/-- A slot's two halves. -/
theorem sl_halves (c : Dev nD) {n : ℕ} {t : EltTy} (b : Memref sig .tc .vmem (Slots n) t) (j : Fin n) (v : Vec F S1x256x128 t) :
    sl c b j fullShare v ⊢ iprop(sl c b j fullShare.left v ∗ sl c b j fullShare.right v) :=
  (owns_halves (c : Thread nD τ) _ fullShare v).1

/-- A wait for a landing between slots. -/
theorem st_waitS (c : Dev nD) (t : Tag) (n : ℕ) (hl : ∀ p ∈ dues.drop n, lvl t < lvlOf p.2) {n₁ n₂ : ℕ}
    {a : Memref sig .tc .vmem (Slots n₁) .bf16} {ha : a.IsWhole} {i : Fin n₁}
    {b : Memref sig .tc .vmem (Slots n₂) .bf16} {hb : b.IsWhole} {j : Fin n₂} (hn : (slot b j).view.dmaCredit = amt t) :
    iprop(env m ρ ∗ wt c t ∗ owesN c n ∗ ((zero c t ∗ pay m ρ c t ∗ owesN c n) -∗ run c k Q))
      ⊢ run c (waitS (semOf t) a ha i b hb j k) Q := by
  unfold owesN waitS
  exact st_wait m ρ c t _ hl (a := slot a i) (b := slot b j) (k := fun _ => k) hn

/-- A chunk's product. -/
theorem st_prod (c : Dev nD) (j : Fin 4) (n n' : ℕ) (h : dues.drop n = (0, .dma (semOf (.yr j))) :: dues.drop n') :
    iprop(env m ρ ∗ ownX m ρ c ∗ ownC m ρ c ∗ anyS c bKeep j ∗ anyS c bSend j ∗ anyS (ptn 0 c) bYrecv j ∗ kit c (.ys j) ∗ tok c (.yr j)
        ∗ owesN c n ∗ ((ownX m ρ c ∗ ownC m ρ c ∗ sl c bKeep j fullShare (keepC m ρ c j) ∗ wt c (.ys j) ∗ owesN c n') -∗ run c k Q))
      ⊢ run c (prodStep (upB c) (ptn 0 c) j k) Q := by
  unfold prodStep owesN
  rw [h]
  iintro ⟨#He, HX, HC, HK, HS, HY, Hk1, Hk2, HO, Hk⟩
  unfold ownX ownC
  iapply (st_load c bX allR _ fullShare (xC m ρ c))
  isplitl [HX]; · iexact HX
  iintro HX
  iapply (st_load c bCol (colR j) _ fullShare (colC m ρ c))
  isplitl [HC]; · iexact HC
  iintro HC
  iapply (st_ld_any c bKeep j)
  isplitl [HK]; · iexact HK
  iintro HK
  iapply (st_stF c bKeep j)
  isplitl [HK]; · iexact HK
  iintro HK
  iapply (st_ld_any c bSend j)
  isplitl [HS]; · iexact HS
  iintro HS
  iapply (st_stB c bSend _ j)
  isplitl [HS]; · iexact HS
  iintro HS
  iapply (st_send m ρ c 0 (.ys j) (.yr j) rfl rfl (dues.drop n') bSend _ j bYrecv _ j fullShare (sendC m ρ c j) rfl rfl
    .rfl (by show _ ⊢ sl (ptn 0 c) bYrecv j fullShare (sendC m ρ (ptn 0 (ptn 0 c)) j); rw [ptn_ptn]))
  iframe
  isplitr; · iexact He
  isplitl [HS]; · iexact HS
  iintro ⟨Hw, HO⟩
  iapply Hk
  iframe
  iexact HK

/-- A chunk's sum. -/
theorem st_sum (c : Dev nD) (j : Fin 4) (n : ℕ) (hl : ∀ p ∈ dues.drop n, 2 < lvlOf p.2) :
    iprop(env m ρ ∗ wt c (.yr j) ∗ sl c bKeep j fullShare (keepC m ρ c j) ∗ anyS c bRed j ∗ anyS c bRed16 j ∗ owesN c n
        ∗ ((zero c (.yr j) ∗ anyS c bKeep j ∗ anyS c bYrecv j ∗ sl c bRed j fullShare (redC m ρ c j)
            ∗ sl c bRed16 j fullShare.left (red16C m ρ c j) ∗ sl c bRed16 j fullShare.right (red16C m ρ c j) ∗ owesN c n) -∗ run c k Q))
      ⊢ run c (sumStep j k) Q := by
  unfold sumStep
  iintro ⟨#He, Hw, HK, HR, HB, HO, Hk⟩
  iapply (st_waitS m ρ c (.yr j) n hl rfl)
  isplitr; · iexact He
  iframe
  iintro ⟨Hz, HY, HO⟩
  unfold pay; dsimp only
  iapply (st_ld c bKeep j fullShare (keepC m ρ c j)); iframe; iintro HK
  iapply (st_ld c bYrecv j fullShare (yrC m ρ c j)); iframe; iintro HY
  iapply (st_ld_any c bRed j); iframe; iintro HR
  iapply (st_stF c bRed j (redC m ρ c j)); iframe; iintro HR
  iapply (st_ld_any c bRed16 j); iframe; iintro HB
  iapply (st_stB c bRed16 _ j (red16C m ρ c j)); iframe; iintro HB
  ihave HB := (sl_halves c bRed16 j (red16C m ρ c j)) $$ HB
  icases HB with ⟨HB1, HB2⟩
  ihave HK := (sl_any c bKeep j _) $$ HK
  ihave HY := (sl_any c bYrecv j _) $$ HY
  iapply Hk
  isplitl [Hz]; · iexact Hz
  isplitl [HK]; · iexact HK
  isplitl [HY]; · iexact HY
  isplitl [HR]; · iexact HR
  isplitl [HB1]; · iexact HB1
  isplitl [HB2]; · iexact HB2
  iexact HO

/-- The sends of a chunk's sum. -/
theorem st_sendX (c : Dev nD) (j : Fin 4) (n n' : ℕ) (h : dues.drop n = (1, .dma (semOf (.xr j))) :: dues.drop n') :
    iprop(env m ρ ∗ sl c bRed16 j fullShare.left (red16C m ρ c j) ∗ anyS (ptn 1 c) bXm j ∗ kit c (.xs j) ∗ tok c (.xr j) ∗ owesN c n
        ∗ ((wt c (.xs j) ∗ owesN c n') -∗ run c k Q))
      ⊢ run c (sendX (ptn 1 c) j k) Q := by
  unfold sendX owesN
  rw [h]
  exact st_send m ρ c 1 (.xs j) (.xr j) rfl rfl (dues.drop n') bRed16 _ j bXm _ j fullShare.left (red16C m ρ c j) rfl rfl
    .rfl (by show _ ⊢ sl (ptn 1 c) bXm j fullShare (red16C m ρ (ptn 1 (ptn 1 c)) j); rw [ptn_ptn])
theorem st_sendZ (c : Dev nD) (j : Fin 4) (n n' : ℕ) (h : dues.drop n = (2, .dma (semOf (.zr j))) :: dues.drop n') :
    iprop(env m ρ ∗ sl c bRed16 j fullShare.right (red16C m ρ c j) ∗ anyS (ptn 2 c) bZm j ∗ kit c (.zs j) ∗ tok c (.zr j) ∗ owesN c n
        ∗ ((wt c (.zs j) ∗ owesN c n') -∗ run c k Q))
      ⊢ run c (sendZ (ptn 2 c) j k) Q := by
  unfold sendZ owesN
  rw [h]
  exact st_send m ρ c 2 (.zs j) (.zr j) rfl rfl (dues.drop n') bRed16 _ j bZm _ j fullShare.right (red16C m ρ c j) rfl rfl
    .rfl (by show _ ⊢ sl (ptn 2 c) bZm j fullShare (red16C m ρ (ptn 2 (ptn 2 c)) j); rw [ptn_ptn])

/-- The waits for the chunks from the partners. -/
theorem st_waitX (c : Dev nD) (j : Fin 4) (n : ℕ) (hl : ∀ p ∈ dues.drop n, 3 < lvlOf p.2) :
    iprop(env m ρ ∗ wt c (.xr j) ∗ owesN c n ∗ ((zero c (.xr j) ∗ sl c bXm j fullShare (xmC m ρ c j) ∗ owesN c n) -∗ run c k Q))
      ⊢ run c (waitX j k) Q := by unfold waitX; exact st_waitS m ρ c (.xr j) n hl rfl
theorem st_waitZ (c : Dev nD) (j : Fin 4) (n : ℕ) (hl : ∀ p ∈ dues.drop n, 3 < lvlOf p.2) :
    iprop(env m ρ ∗ wt c (.zr j) ∗ owesN c n ∗ ((zero c (.zr j) ∗ sl c bZm j fullShare (zmC m ρ c j) ∗ owesN c n) -∗ run c k Q))
      ⊢ run c (waitZ j k) Q := by unfold waitZ; exact st_waitS m ρ c (.zr j) n hl rfl

/-- The chunks sent on. -/
theorem st_fwdZ (c : Dev nD) (i : Fin 2) (n n' : ℕ) (h : dues.drop n = (2, .dma (semOf (.fzr i))) :: dues.drop n')
    (hl : ∀ p ∈ dues.drop n, 3 < lvlOf p.2) :
    iprop(env m ρ ∗ wt c (.xr (hi2 i)) ∗ anyS (ptn 2 c) bZd i ∗ kit c (.fzs i) ∗ tok c (.fzr i) ∗ owesN c n
        ∗ ((zero c (.xr (hi2 i)) ∗ sl c bXm (hi2 i) fullShare.right (xmC m ρ c (hi2 i)) ∗ wt c (.fzs i) ∗ owesN c n') -∗ run c k Q))
      ⊢ run c (fwdZ (ptn 2 c) i k) Q := by
  unfold fwdZ
  iintro ⟨#He, Hw, HD, Hk1, Hk2, HO, Hk⟩
  iapply (st_waitX m ρ c (hi2 i) n hl)
  isplitr; · iexact He
  iframe
  iintro ⟨Hz, HX, HO⟩
  ihave HX := (sl_halves c bXm (hi2 i) (xmC m ρ c (hi2 i))) $$ HX
  icases HX with ⟨HX1, HX2⟩
  unfold owesN
  rw [h]
  iapply (st_send m ρ c 2 (.fzs i) (.fzr i) rfl rfl (dues.drop n') bXm _ (hi2 i) bZd _ i fullShare.left (xmC m ρ c (hi2 i)) rfl rfl
    .rfl (by
      show _ ⊢ sl (ptn 2 c) bZd i fullShare (red16C m ρ (ptn 1 (ptn 2 (ptn 2 c))) (hi2 i)); rw [ptn_ptn]; exact .rfl))
  isplitr; · iexact He
  isplitl [HX1]; · iexact HX1
  iframe
  iintro ⟨Hw, HO⟩
  iapply Hk
  iframe
theorem st_fwdX (c : Dev nD) (i : Fin 2) (n n' : ℕ) (h : dues.drop n = (1, .dma (semOf (.fxr i))) :: dues.drop n')
    (hl : ∀ p ∈ dues.drop n, 3 < lvlOf p.2) :
    iprop(env m ρ ∗ wt c (.zr (lo2 i)) ∗ anyS (ptn 1 c) bXd i ∗ kit c (.fxs i) ∗ tok c (.fxr i) ∗ owesN c n
        ∗ ((zero c (.zr (lo2 i)) ∗ sl c bZm (lo2 i) fullShare.right (zmC m ρ c (lo2 i)) ∗ wt c (.fxs i) ∗ owesN c n') -∗ run c k Q))
      ⊢ run c (fwdX (ptn 1 c) i k) Q := by
  unfold fwdX
  iintro ⟨#He, Hw, HD, Hk1, Hk2, HO, Hk⟩
  iapply (st_waitZ m ρ c (lo2 i) n hl)
  isplitr; · iexact He
  iframe
  iintro ⟨Hz, HX, HO⟩
  ihave HX := (sl_halves c bZm (lo2 i) (zmC m ρ c (lo2 i))) $$ HX
  icases HX with ⟨HX1, HX2⟩
  unfold owesN
  rw [h]
  iapply (st_send m ρ c 1 (.fxs i) (.fxr i) rfl rfl (dues.drop n') bZm _ (lo2 i) bXd _ i fullShare.left (zmC m ρ c (lo2 i)) rfl rfl
    .rfl (by
      show _ ⊢ sl (ptn 1 c) bXd i fullShare (red16C m ρ (ptn 1 (ptn 2 (ptn 1 c))) (lo2 i))
      rw [ptn_comm, ptn_ptn]; exact .rfl))
  isplitr; · iexact He
  isplitl [HX1]; · iexact HX1
  iframe
  iintro ⟨Hw, HO⟩
  iapply Hk
  iframe

/-- The copy out of a chunk of the own quarter. -/
theorem st_own (c : Dev nD) (j : Fin 4) :
    iprop(env m ρ ∗ sl c bRed j fullShare (redC m ρ c j) ∗ anyO c 0 j ∗ kit c (.out 0 j) ∗ (wt c (.out 0 j) -∗ run c k Q))
      ⊢ run c (ownStep (placesC c) j k) Q := st_put m ρ c 0 j (redC m ρ c j) rfl

/-- An arrived chunk into the result. -/
theorem st_conv (c : Dev nD) (q j : Fin 4) {n : ℕ} (a : Memref sig .tc .vmem (Slots n) .bf16) (i : Fin n) (sh : PosShare TreeShare)
    (v : Vec F S1x256x128 .bf16) (hv : outC m ρ c q j = extV v) :
    iprop(env m ρ ∗ sl c a i sh v ∗ anyS c (srcO q) j ∗ anyO c q j ∗ kit c (.out q j)
        ∗ ((sl c a i sh v ∗ wt c (.out q j)) -∗ run c k Q))
      ⊢ run c (convStep a i (srcO q) j (offO c q j) (offO_inb c q j) (sOut (outK q j)) k) Q := by
  unfold convStep
  iintro ⟨#He, Ha, Hb, Ho, Hk1, Hk⟩
  iapply (st_ld c a i sh v); iframe; iintro Ha
  iapply (st_ld_any c (srcO q) j); iframe; iintro Hb
  iapply (st_stF c (srcO q) j); iframe; iintro Hb
  iapply (st_put m ρ c q j _ hv)
  isplitr; · iexact He
  iframe
  iintro Hw
  iapply Hk
  iframe
theorem st_convXd (c : Dev nD) (i : Fin 2) :
    iprop(env m ρ ∗ wt c (.fxr i) ∗ anyS c bCd (lo2 i) ∗ anyO c 3 (lo2 i) ∗ kit c (.out 3 (lo2 i)) ∗ owesN c 19
        ∗ ((zero c (.fxr i) ∗ anyS c bXd i ∗ wt c (.out 3 (lo2 i)) ∗ owesN c 19) -∗ run c k Q))
      ⊢ run c (convXd (placesC c) i k) Q := by
  unfold convXd
  iintro ⟨#He, Hw, Hb, Ho, Hk1, HO, Hk⟩
  iapply (st_waitS m ρ c (.fxr i) 19 (by intro p hp; exact absurd hp (by simp [dues])) rfl)
  isplitr; · iexact He
  iframe
  iintro ⟨Hz, Ha, HO⟩
  unfold pay; dsimp only
  iapply (st_conv m ρ c 3 (lo2 i) bXd i fullShare (dgC m ρ c (lo2 i)) rfl)
  isplitr; · iexact He
  isplitl [Ha]; · iexact Ha
  isplitl [Hb]; · iexact Hb
  iframe
  iintro ⟨Ha, Hw⟩
  ihave Ha := (sl_any c bXd i _) $$ Ha
  iapply Hk
  iframe
theorem st_convZd (c : Dev nD) (i : Fin 2) :
    iprop(env m ρ ∗ wt c (.fzr i) ∗ anyS c bCd (hi2 i) ∗ anyO c 3 (hi2 i) ∗ kit c (.out 3 (hi2 i)) ∗ owesN c 19
        ∗ ((zero c (.fzr i) ∗ anyS c bZd i ∗ wt c (.out 3 (hi2 i)) ∗ owesN c 19) -∗ run c k Q))
      ⊢ run c (convZd (placesC c) i k) Q := by
  unfold convZd
  iintro ⟨#He, Hw, Hb, Ho, Hk1, HO, Hk⟩
  iapply (st_waitS m ρ c (.fzr i) 19 (by intro p hp; exact absurd hp (by simp [dues])) rfl)
  isplitr; · iexact He
  iframe
  iintro ⟨Hz, Ha, HO⟩
  unfold pay; dsimp only
  iapply (st_conv m ρ c 3 (hi2 i) bZd i fullShare (dgC m ρ c (hi2 i)) rfl)
  isplitr; · iexact He
  isplitl [Ha]; · iexact Ha
  isplitl [Hb]; · iexact Hb
  iframe
  iintro ⟨Ha, Hw⟩
  ihave Ha := (sl_any c bZd i _) $$ Ha
  iapply Hk
  iframe

/-- Both halves of a slot, together again. -/
theorem sl_join (c : Dev nD) {n : ℕ} {t : EltTy} (b : Memref sig .tc .vmem (Slots n) t) (j : Fin n) (v : Vec F S1x256x128 t) :
    iprop(sl c b j fullShare.left v ∗ sl c b j fullShare.right v) ⊢ anyS c b j :=
  (owns_halves (c : Thread nD τ) _ fullShare v).2.trans (sl_any c b j v)

theorem none_owed {n : ℕ} : ∀ p ∈ dues.drop 19, n < lvlOf p.2 := by intro p hp; exact absurd hp (by simp [dues])

/-- The waits for a chunk's three sends. -/
theorem st_drainS (c : Dev nD) (j : Fin 4) :
    iprop(env m ρ ∗ wt c (.ys j) ∗ wt c (.xs j) ∗ wt c (.zs j) ∗ owesN c 19
        ∗ ((zero c (.ys j) ∗ zero c (.xs j) ∗ zero c (.zs j) ∗ anyS c bSend j ∗ anyS c bRed16 j ∗ owesN c 19) -∗ run c k Q))
      ⊢ run c (drainS j k) Q := by
  unfold drainS
  iintro ⟨#He, H1, H2, H3, HO, Hk⟩
  iapply (st_waitS m ρ c (.ys j) 19 none_owed (by rfl))
  isplitr; · iexact He
  iframe; iintro ⟨Hz1, H1, HO⟩
  iapply (st_waitS m ρ c (.xs j) 19 none_owed (by rfl))
  isplitr; · iexact He
  iframe; iintro ⟨Hz2, H2, HO⟩
  iapply (st_waitS m ρ c (.zs j) 19 none_owed (by rfl))
  isplitr; · iexact He
  iframe; iintro ⟨Hz3, H3, HO⟩
  unfold pay; dsimp only
  ihave H1 := (sl_any c bSend j _) $$ H1
  ihave H2 := (sl_join c bRed16 j (red16C m ρ c j)) $$ [H2 H3]
  · iframe
  iapply Hk
  iframe
theorem st_drainF (c : Dev nD) (i : Fin 2) :
    iprop(env m ρ ∗ wt c (.fxs i) ∗ wt c (.fzs i) ∗ sl c bZm (lo2 i) fullShare.right (zmC m ρ c (lo2 i))
        ∗ sl c bXm (hi2 i) fullShare.right (xmC m ρ c (hi2 i)) ∗ owesN c 19
        ∗ ((zero c (.fxs i) ∗ zero c (.fzs i) ∗ anyS c bZm (lo2 i) ∗ anyS c bXm (hi2 i) ∗ owesN c 19) -∗ run c k Q))
      ⊢ run c (drainF i k) Q := by
  unfold drainF
  iintro ⟨#He, H1, H2, HZ, HX, HO, Hk⟩
  iapply (st_waitS m ρ c (.fxs i) 19 none_owed (by rfl))
  isplitr; · iexact He
  iframe; iintro ⟨Hz1, H1, HO⟩
  iapply (st_waitS m ρ c (.fzs i) 19 none_owed (by rfl))
  isplitr; · iexact He
  iframe; iintro ⟨Hz2, H2, HO⟩
  unfold pay; dsimp only
  ihave HZ := (sl_join c bZm (lo2 i) (zmC m ρ c (lo2 i))) $$ [H1 HZ]
  · iframe
  ihave HX := (sl_join c bXm (hi2 i) (xmC m ρ c (hi2 i))) $$ [H2 HX]
  · iframe
  iapply Hk
  iframe

/-- The wait for one copy into the result. -/
theorem st_waitO (c : Dev nD) (q j : Fin 4) :
    iprop(env m ρ ∗ wt c (.out q j) ∗ owesN c 19
        ∗ ((zero c (.out q j) ∗ blkO c q j (outC m ρ c q j) ∗ anyS c (srcO q) j ∗ owesN c 19) -∗ run c k Q))
      ⊢ run c (waitO (srcO q) j (offO c q j) (offO_inb c q j) (sOut (outK q j)) k) Q := by
  unfold waitO owesN
  iintro ⟨#He, H1, HO, Hk⟩
  iapply (st_wait m ρ c (.out q j) (dues.drop 19) none_owed (a := slot (srcO q) j) (b := outB (offO c q j) (offO_inb c q j)) rfl)
  isplitr; · iexact He
  iframe; iintro ⟨Hz, H1, HO⟩
  unfold pay; dsimp only
  icases H1 with ⟨HB, HS⟩
  ihave HS := (sl_any c (srcO q) j _) $$ HS
  iapply Hk
  iframe

/-- The waits for a chunk's four copies into the result. -/
theorem st_drainO (c : Dev nD) (j : Fin 4) :
    iprop(env m ρ ∗ wt c (.out 0 j) ∗ wt c (.out 1 j) ∗ wt c (.out 2 j) ∗ wt c (.out 3 j) ∗ owesN c 19
        ∗ ((zero c (.out 0 j) ∗ zero c (.out 1 j) ∗ zero c (.out 2 j) ∗ zero c (.out 3 j)
            ∗ blkO c 0 j (outC m ρ c 0 j) ∗ blkO c 1 j (outC m ρ c 1 j) ∗ blkO c 2 j (outC m ρ c 2 j) ∗ blkO c 3 j (outC m ρ c 3 j)
            ∗ anyS c bRed j ∗ anyS c bCx j ∗ anyS c bCz j ∗ anyS c bCd j ∗ owesN c 19) -∗ run c k Q))
      ⊢ run c (drainO (placesC c) j k) Q := by
  unfold drainO
  iintro ⟨#He, H0, H1, H2, H3, HO, Hk⟩
  iapply (st_waitO m ρ c 0 j)
  isplitr; · iexact He
  iframe; iintro ⟨Hz0, Hb0, Hs0, HO⟩
  iapply (st_waitO m ρ c 1 j)
  isplitr; · iexact He
  iframe; iintro ⟨Hz1, Hb1, Hs1, HO⟩
  iapply (st_waitO m ρ c 2 j)
  isplitr; · iexact He
  iframe; iintro ⟨Hz2, Hb2, Hs2, HO⟩
  iapply (st_waitO m ρ c 3 j)
  isplitr; · iexact He
  iframe; iintro ⟨Hz3, Hb3, Hs3, HO⟩
  unfold srcO; dsimp only
  iapply Hk
  iframe

end Rules

end Cert.KernelIdeal.Swap

end
-- ==== Proof.Branch.lean ====
/- One branch of the body, run on device `c` in its four stretches. -/
module

public import proofs.«01_k».proof.Proof.Steps

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What a chunk takes along

A chunk's buffers and cells before its product (`A0`), before its sum (`A1`), before its copy into the
result (`A2`) and after (`A3`); what the send of its sum across `x` and across `z` takes beside the sum's half. -/

def A0 (c : Dev nD) (j : Fin 4) : SP F :=
  iprop(anyS c bKeep j ∗ anyS c bSend j ∗ anyS (ptn 0 c) bYrecv j ∗ kit c (.ys j) ∗ tok c (.yr j) ∗ wt c (.yr j)
    ∗ anyS c bRed j ∗ anyS c bRed16 j ∗ anyO c 0 j ∗ kit c (.out 0 j))
def A1 (c : Dev nD) (j : Fin 4) : SP F :=
  iprop(sl c bKeep j fullShare (keepC m ρ c j) ∗ wt c (.ys j) ∗ wt c (.yr j)
    ∗ anyS c bRed j ∗ anyS c bRed16 j ∗ anyO c 0 j ∗ kit c (.out 0 j))
def A2 (c : Dev nD) (j : Fin 4) : SP F :=
  iprop(anyS c bKeep j ∗ anyS c bYrecv j ∗ wt c (.ys j) ∗ zero c (.yr j)
    ∗ sl c bRed j fullShare (redC m ρ c j) ∗ anyO c 0 j ∗ kit c (.out 0 j))
def A3 (c : Dev nD) (j : Fin 4) : SP F :=
  iprop(anyS c bKeep j ∗ anyS c bYrecv j ∗ wt c (.ys j) ∗ zero c (.yr j) ∗ wt c (.out 0 j))
def hL (c : Dev nD) (j : Fin 4) : SP F := sl c bRed16 j fullShare.left (red16C m ρ c j)
def hR (c : Dev nD) (j : Fin 4) : SP F := sl c bRed16 j fullShare.right (red16C m ρ c j)
def sX (c : Dev nD) (j : Fin 4) : SP F := iprop(anyS (ptn 1 c) bXm j ∗ kit c (.xs j) ∗ tok c (.xr j))
def sZ (c : Dev nD) (j : Fin 4) : SP F := iprop(anyS (ptn 2 c) bZm j ∗ kit c (.zs j) ∗ tok c (.zr j))

/-- What sending on takes beside the arrived slot, across `x` and across `z`. -/
def fX (c : Dev nD) (i : Fin 2) : SP F := iprop(anyS (ptn 1 c) bXd i ∗ kit c (.fxs i) ∗ tok c (.fxr i))
def fZ (c : Dev nD) (i : Fin 2) : SP F := iprop(anyS (ptn 2 c) bZd i ∗ kit c (.fzs i) ∗ tok c (.fzr i))

/-- An arrived slot, at a share. -/
def gX (c : Dev nD) (j : Fin 4) (q : PosShare TreeShare) : SP F := sl c bXm j q (xmC m ρ c j)
def gZ (c : Dev nD) (j : Fin 4) (q : PosShare TreeShare) : SP F := sl c bZm j q (zmC m ρ c j)

/-- What bringing an arrived chunk into the result takes. -/
def cO (c : Dev nD) (q j : Fin 4) : SP F := iprop(anyS c (srcO q) j ∗ anyO c q j ∗ kit c (.out q j))

/-- A chunk's kept half and arrived half, free again, the arrival's cell closed. -/
def dY (c : Dev nD) (j : Fin 4) : SP F := iprop(anyS c bKeep j ∗ anyS c bYrecv j ∗ zero c (.yr j))

/-- The waits at the end of a chunk's sends and copies, and all that is back then. -/
def dS (c : Dev nD) (j : Fin 4) : SP F := iprop(zero c (.ys j) ∗ zero c (.xs j) ∗ zero c (.zs j) ∗ anyS c bSend j ∗ anyS c bRed16 j)
def dF (c : Dev nD) (i : Fin 2) : SP F := iprop(zero c (.fxs i) ∗ zero c (.fzs i) ∗ anyS c bZm (lo2 i) ∗ anyS c bXm (hi2 i))
def dO (c : Dev nD) (j : Fin 4) : SP F :=
  iprop(zero c (.out 0 j) ∗ zero c (.out 1 j) ∗ zero c (.out 2 j) ∗ zero c (.out 3 j)
    ∗ blkO c 0 j (outC m ρ c 0 j) ∗ blkO c 1 j (outC m ρ c 1 j) ∗ blkO c 2 j (outC m ρ c 2 j) ∗ blkO c 3 j (outC m ρ c 3 j)
    ∗ anyS c bRed j ∗ anyS c bCx j ∗ anyS c bCz j ∗ anyS c bCd j)

attribute [local irreducible] wt kit tok pos zero owesL owesN anyS anyO sl blkO ownX ownC

section Rules
variable {α : Type} {Q : α → SP F} {k : PG F α}

theorem at_prod (c : Dev nD) (j : Fin 4) (n n' : ℕ) (h : dues.drop n = (0, .dma (semOf (.yr j))) :: dues.drop n') :
    iprop(env m ρ ∗ ownX m ρ c ∗ ownC m ρ c ∗ A0 c j ∗ owesN c n
        ∗ ((ownX m ρ c ∗ ownC m ρ c ∗ A1 m ρ c j ∗ owesN c n') -∗ run c k Q))
      ⊢ run c (prodStep (upB c) (ptn 0 c) j k) Q := by
  unfold A0 A1
  iintro ⟨#He, HX, HC, ⟨H1, H2, H3, H4, H5, H6, H7, H8, H9, H10⟩, HO, Hk⟩
  iapply (st_prod m ρ c j n n' h)
  isplitr; · iexact He
  iframe
  iintro ⟨HX, HC, H1, H2, HO⟩
  iapply Hk
  iframe

theorem at_sum (c : Dev nD) (j : Fin 4) (n : ℕ) (hl : ∀ p ∈ dues.drop n, 2 < lvlOf p.2) :
    iprop(env m ρ ∗ A1 m ρ c j ∗ owesN c n ∗ ((A2 m ρ c j ∗ hL m ρ c j ∗ hR m ρ c j ∗ owesN c n) -∗ run c k Q))
      ⊢ run c (sumStep j k) Q := by
  unfold A1 A2 hL hR
  iintro ⟨#He, ⟨H1, H2, H3, H4, H5, H6, H7⟩, HO, Hk⟩
  iapply (st_sum m ρ c j n hl)
  isplitr; · iexact He
  iframe
  iintro ⟨H1, H3, H4, H5, H6, H7, HO⟩
  iapply Hk
  iframe

theorem at_own (c : Dev nD) (j : Fin 4) :
    iprop(env m ρ ∗ A2 m ρ c j ∗ (A3 c j -∗ run c k Q)) ⊢ run c (ownStep (placesC c) j k) Q := by
  unfold A2 A3
  iintro ⟨#He, ⟨H1, H2, H3, H4, H5, H6, H7⟩, Hk⟩
  iapply (st_own m ρ c j)
  isplitr; · iexact He
  iframe
  iintro H5
  iapply Hk
  iframe

theorem at_sendX (c : Dev nD) (j : Fin 4) (n n' : ℕ) (h : dues.drop n = (1, .dma (semOf (.xr j))) :: dues.drop n') :
    iprop(env m ρ ∗ hL m ρ c j ∗ sX c j ∗ owesN c n ∗ ((wt c (.xs j) ∗ owesN c n') -∗ run c k Q))
      ⊢ run c (sendX (ptn 1 c) j k) Q := by
  unfold hL sX
  iintro ⟨#He, H1, ⟨H2, H3, H4⟩, HO, Hk⟩
  iapply (st_sendX m ρ c j n n' h)
  isplitr; · iexact He
  iframe
theorem at_sendZ (c : Dev nD) (j : Fin 4) (n n' : ℕ) (h : dues.drop n = (2, .dma (semOf (.zr j))) :: dues.drop n') :
    iprop(env m ρ ∗ hR m ρ c j ∗ sZ c j ∗ owesN c n ∗ ((wt c (.zs j) ∗ owesN c n') -∗ run c k Q))
      ⊢ run c (sendZ (ptn 2 c) j k) Q := by
  unfold hR sZ
  iintro ⟨#He, H1, ⟨H2, H3, H4⟩, HO, Hk⟩
  iapply (st_sendZ m ρ c j n n' h)
  isplitr; · iexact He
  iframe

theorem at_fwdZ (c : Dev nD) (i : Fin 2) (n n' : ℕ) (h : dues.drop n = (2, .dma (semOf (.fzr i))) :: dues.drop n')
    (hl : ∀ p ∈ dues.drop n, 3 < lvlOf p.2) :
    iprop(env m ρ ∗ wt c (.xr (hi2 i)) ∗ fZ c i ∗ owesN c n
        ∗ ((zero c (.xr (hi2 i)) ∗ gX m ρ c (hi2 i) fullShare.right ∗ wt c (.fzs i) ∗ owesN c n') -∗ run c k Q))
      ⊢ run c (fwdZ (ptn 2 c) i k) Q := by
  unfold fZ gX
  iintro ⟨#He, H1, ⟨H2, H3, H4⟩, HO, Hk⟩
  iapply (st_fwdZ m ρ c i n n' h hl)
  isplitr; · iexact He
  iframe
theorem at_fwdX (c : Dev nD) (i : Fin 2) (n n' : ℕ) (h : dues.drop n = (1, .dma (semOf (.fxr i))) :: dues.drop n')
    (hl : ∀ p ∈ dues.drop n, 3 < lvlOf p.2) :
    iprop(env m ρ ∗ wt c (.zr (lo2 i)) ∗ fX c i ∗ owesN c n
        ∗ ((zero c (.zr (lo2 i)) ∗ gZ m ρ c (lo2 i) fullShare.right ∗ wt c (.fxs i) ∗ owesN c n') -∗ run c k Q))
      ⊢ run c (fwdX (ptn 1 c) i k) Q := by
  unfold fX gZ
  iintro ⟨#He, H1, ⟨H2, H3, H4⟩, HO, Hk⟩
  iapply (st_fwdX m ρ c i n n' h hl)
  isplitr; · iexact He
  iframe

theorem at_waitX (c : Dev nD) (j : Fin 4) :
    iprop(env m ρ ∗ wt c (.xr j) ∗ owesN c 19 ∗ ((zero c (.xr j) ∗ gX m ρ c j fullShare ∗ owesN c 19) -∗ run c k Q))
      ⊢ run c (waitX j k) Q := st_waitX m ρ c j 19 none_owed
theorem at_waitZ (c : Dev nD) (j : Fin 4) :
    iprop(env m ρ ∗ wt c (.zr j) ∗ owesN c 19 ∗ ((zero c (.zr j) ∗ gZ m ρ c j fullShare ∗ owesN c 19) -∗ run c k Q))
      ⊢ run c (waitZ j k) Q := st_waitZ m ρ c j 19 none_owed

theorem at_convX (c : Dev nD) (j : Fin 4) (sh : PosShare TreeShare) :
    iprop(env m ρ ∗ gX m ρ c j sh ∗ cO c 1 j ∗ ((gX m ρ c j sh ∗ wt c (.out 1 j)) -∗ run c k Q))
      ⊢ run c (convX (placesC c) j k) Q := by
  unfold cO gX
  iintro ⟨#He, H1, ⟨H2, H3, H4⟩, Hk⟩
  iapply (st_conv m ρ c 1 j bXm j sh (xmC m ρ c j) rfl)
  isplitr; · iexact He
  iframe
theorem at_convZ (c : Dev nD) (j : Fin 4) (sh : PosShare TreeShare) :
    iprop(env m ρ ∗ gZ m ρ c j sh ∗ cO c 2 j ∗ ((gZ m ρ c j sh ∗ wt c (.out 2 j)) -∗ run c k Q))
      ⊢ run c (convZ (placesC c) j k) Q := by
  unfold cO gZ
  iintro ⟨#He, H1, ⟨H2, H3, H4⟩, Hk⟩
  iapply (st_conv m ρ c 2 j bZm j sh (zmC m ρ c j) rfl)
  isplitr; · iexact He
  iframe
theorem at_convXd (c : Dev nD) (i : Fin 2) :
    iprop(env m ρ ∗ wt c (.fxr i) ∗ cO c 3 (lo2 i) ∗ owesN c 19
        ∗ ((zero c (.fxr i) ∗ anyS c bXd i ∗ wt c (.out 3 (lo2 i)) ∗ owesN c 19) -∗ run c k Q))
      ⊢ run c (convXd (placesC c) i k) Q := by
  unfold cO
  iintro ⟨#He, H1, ⟨H2, H3, H4⟩, HO, Hk⟩
  iapply (st_convXd m ρ c i)
  isplitr; · iexact He
  isplitl [H1]; · iexact H1
  isplitl [H2]; · iexact H2
  iframe
theorem at_convZd (c : Dev nD) (i : Fin 2) :
    iprop(env m ρ ∗ wt c (.fzr i) ∗ cO c 3 (hi2 i) ∗ owesN c 19
        ∗ ((zero c (.fzr i) ∗ anyS c bZd i ∗ wt c (.out 3 (hi2 i)) ∗ owesN c 19) -∗ run c k Q))
      ⊢ run c (convZd (placesC c) i k) Q := by
  unfold cO
  iintro ⟨#He, H1, ⟨H2, H3, H4⟩, HO, Hk⟩
  iapply (st_convZd m ρ c i)
  isplitr; · iexact He
  isplitl [H1]; · iexact H1
  isplitl [H2]; · iexact H2
  iframe

theorem at_drainS (c : Dev nD) (j : Fin 4) :
    iprop(env m ρ ∗ wt c (.ys j) ∗ wt c (.xs j) ∗ wt c (.zs j) ∗ owesN c 19 ∗ ((dS c j ∗ owesN c 19) -∗ run c k Q))
      ⊢ run c (drainS j k) Q := by
  unfold dS
  iintro ⟨#He, H1, H2, H3, HO, Hk⟩
  iapply (st_drainS m ρ c j)
  isplitr; · iexact He
  iframe
  iintro ⟨H1, H2, H3, H4, H5, HO⟩
  iapply Hk
  iframe
theorem at_drainF (c : Dev nD) (i : Fin 2) :
    iprop(env m ρ ∗ wt c (.fxs i) ∗ wt c (.fzs i) ∗ gZ m ρ c (lo2 i) fullShare.right ∗ gX m ρ c (hi2 i) fullShare.right ∗ owesN c 19
        ∗ ((dF c i ∗ owesN c 19) -∗ run c k Q))
      ⊢ run c (drainF i k) Q := by
  unfold dF gX gZ
  iintro ⟨#He, H1, H2, H3, H4, HO, Hk⟩
  iapply (st_drainF m ρ c i)
  isplitr; · iexact He
  iframe
  iintro ⟨H1, H2, H3, H4, HO⟩
  iapply Hk
  iframe
theorem at_drainO (c : Dev nD) (j : Fin 4) :
    iprop(env m ρ ∗ wt c (.out 0 j) ∗ wt c (.out 1 j) ∗ wt c (.out 2 j) ∗ wt c (.out 3 j) ∗ owesN c 19
        ∗ ((dO m ρ c j ∗ owesN c 19) -∗ run c k Q))
      ⊢ run c (drainO (placesC c) j k) Q := by
  unfold dO
  iintro ⟨#He, H1, H2, H3, H4, HO, Hk⟩
  iapply (st_drainO m ρ c j)
  isplitr; · iexact He
  iframe
  iintro ⟨H1, H2, H3, H4, H5, H6, H7, H8, H9, H10, H11, H12, HO⟩
  iapply Hk
  iframe

theorem A3_split (c : Dev nD) (j : Fin 4) : (A3 c j : SP F) ⊢ iprop(dY c j ∗ wt c (.ys j) ∗ wt c (.out 0 j)) := by
  unfold A3 dY
  iintro ⟨H1, H2, H3, H4, H5⟩
  iframe

attribute [local irreducible] dY A0 A1 A2 A3 hL hR sX sZ fX fZ gX gZ cO dS dF dO

/-- The first stretch: products, sums, the first sends of the sums. -/
theorem at_impl1 (c : Dev nD) :
    iprop(env m ρ ∗ ownX m ρ c ∗ ownC m ρ c ∗ A0 c 0 ∗ A0 c 1 ∗ A0 c 2 ∗ A0 c 3 ∗ sZ c 0 ∗ sZ c 1 ∗ sX c 2 ∗ sX c 3 ∗ owesN c 3
        ∗ ((ownX m ρ c ∗ ownC m ρ c ∗ A3 c 0 ∗ A3 c 1 ∗ A3 c 2 ∗ A3 c 3 ∗ wt c (.zs 0) ∗ wt c (.zs 1) ∗ wt c (.xs 2) ∗ wt c (.xs 3)
            ∗ hL m ρ c 0 ∗ hL m ρ c 1 ∗ hR m ρ c 2 ∗ hR m ρ c 3 ∗ owesN c 11) -∗ run c k Q))
      ⊢ run c (impl1 (placesC c) (upB c) k) Q := by
  unfold impl1
  iintro ⟨#He, HX, HC, H0, H1, H2, H3, HZ0, HZ1, HX2, HX3, HO, Hk⟩
  iapply (at_prod m ρ c 0 3 4 rfl); isplitr; · iexact He
  iframe; iintro ⟨HX, HC, H0, HO⟩
  iapply (at_prod m ρ c 2 4 5 rfl); isplitr; · iexact He
  iframe; iintro ⟨HX, HC, H2, HO⟩
  iapply (at_prod m ρ c 1 5 6 rfl); isplitr; · iexact He
  iframe; iintro ⟨HX, HC, H1, HO⟩
  iapply (at_prod m ρ c 3 6 7 rfl); isplitr; · iexact He
  iframe; iintro ⟨HX, HC, H3, HO⟩
  iapply (at_sum m ρ c 0 7 (by decide)); isplitr; · iexact He
  iframe; iintro ⟨H0, HL0, HR0, HO⟩
  iapply (at_sendZ m ρ c 0 7 8 rfl); isplitr; · iexact He
  iframe; iintro ⟨HZ0, HO⟩
  iapply (at_own m ρ c 0); isplitr; · iexact He
  iframe; iintro H0
  iapply (at_sum m ρ c 2 8 (by decide)); isplitr; · iexact He
  iframe; iintro ⟨H2, HL2, HR2, HO⟩
  iapply (at_sendX m ρ c 2 8 9 rfl); isplitr; · iexact He
  iframe; iintro ⟨HX2, HO⟩
  iapply (at_own m ρ c 2); isplitr; · iexact He
  iframe; iintro H2
  iapply (at_sum m ρ c 1 9 (by decide)); isplitr; · iexact He
  iframe; iintro ⟨H1, HL1, HR1, HO⟩
  iapply (at_sendZ m ρ c 1 9 10 rfl); isplitr; · iexact He
  iframe; iintro ⟨HZ1, HO⟩
  iapply (at_own m ρ c 1); isplitr; · iexact He
  iframe; iintro H1
  iapply (at_sum m ρ c 3 10 (by decide)); isplitr; · iexact He
  iframe; iintro ⟨H3, HL3, HR3, HO⟩
  iapply (at_sendX m ρ c 3 10 11 rfl); isplitr; · iexact He
  iframe; iintro ⟨HX3, HO⟩
  iapply (at_own m ρ c 3); isplitr; · iexact He
  iframe; iintro H3
  iapply Hk
  iframe

/-- The second stretch: the other sends, the chunks sent on, the waits for the chunks that stay. -/
theorem at_impl2 (c : Dev nD) :
    iprop(env m ρ ∗ hL m ρ c 0 ∗ hL m ρ c 1 ∗ hR m ρ c 2 ∗ hR m ρ c 3 ∗ sX c 0 ∗ sX c 1 ∗ sZ c 2 ∗ sZ c 3
        ∗ fX c 0 ∗ fX c 1 ∗ fZ c 0 ∗ fZ c 1
        ∗ wt c (.xr 0) ∗ wt c (.xr 1) ∗ wt c (.xr 2) ∗ wt c (.xr 3) ∗ wt c (.zr 0) ∗ wt c (.zr 1) ∗ wt c (.zr 2) ∗ wt c (.zr 3) ∗ owesN c 11
        ∗ ((wt c (.xs 0) ∗ wt c (.xs 1) ∗ wt c (.zs 2) ∗ wt c (.zs 3) ∗ wt c (.fxs 0) ∗ wt c (.fxs 1) ∗ wt c (.fzs 0) ∗ wt c (.fzs 1)
            ∗ zero c (.xr 0) ∗ zero c (.xr 1) ∗ zero c (.xr 2) ∗ zero c (.xr 3)
            ∗ zero c (.zr 0) ∗ zero c (.zr 1) ∗ zero c (.zr 2) ∗ zero c (.zr 3)
            ∗ gX m ρ c 0 fullShare ∗ gX m ρ c 1 fullShare ∗ gX m ρ c 2 fullShare.right ∗ gX m ρ c 3 fullShare.right
            ∗ gZ m ρ c 0 fullShare.right ∗ gZ m ρ c 1 fullShare.right ∗ gZ m ρ c 2 fullShare ∗ gZ m ρ c 3 fullShare ∗ owesN c 19) -∗ run c k Q))
      ⊢ run c (impl2 (placesC c) k) Q := by
  unfold impl2
  iintro ⟨#He, HL0, HL1, HR2, HR3, HX0, HX1, HZ2, HZ3, HF0, HF1, HG0, HG1, Hx0, Hx1, Hx2, Hx3, Hz0, Hz1, Hz2, Hz3, HO, Hk⟩
  iapply (at_sendX m ρ c 0 11 12 rfl); isplitr; · iexact He
  iframe; iintro ⟨HX0, HO⟩
  iapply (at_sendX m ρ c 1 12 13 rfl); isplitr; · iexact He
  iframe; iintro ⟨HX1, HO⟩
  iapply (at_sendZ m ρ c 2 13 14 rfl); isplitr; · iexact He
  iframe; iintro ⟨HZ2, HO⟩
  iapply (at_sendZ m ρ c 3 14 15 rfl); isplitr; · iexact He
  iframe; iintro ⟨HZ3, HO⟩
  iapply (at_fwdZ m ρ c 0 15 16 rfl (by decide)); isplitr; · iexact He
  isplitl [Hx2]; · iexact Hx2
  iframe; iintro ⟨Hx2, Hg2, HG0, HO⟩
  iapply (at_fwdZ m ρ c 1 16 17 rfl (by decide)); isplitr; · iexact He
  isplitl [Hx3]; · iexact Hx3
  iframe; iintro ⟨Hx3, Hg3, HG1, HO⟩
  iapply (at_fwdX m ρ c 0 17 18 rfl (by decide)); isplitr; · iexact He
  isplitl [Hz0]; · iexact Hz0
  iframe; iintro ⟨Hz0, Hh0, HF0, HO⟩
  iapply (at_fwdX m ρ c 1 18 19 rfl (by decide)); isplitr; · iexact He
  isplitl [Hz1]; · iexact Hz1
  iframe; iintro ⟨Hz1, Hh1, HF1, HO⟩
  iapply (at_waitX m ρ c 0); isplitr; · iexact He
  iframe; iintro ⟨Hx0, Hg0, HO⟩
  iapply (at_waitX m ρ c 1); isplitr; · iexact He
  iframe; iintro ⟨Hx1, Hg1, HO⟩
  iapply (at_waitZ m ρ c 2); isplitr; · iexact He
  iframe; iintro ⟨Hz2, Hh2, HO⟩
  iapply (at_waitZ m ρ c 3); isplitr; · iexact He
  iframe; iintro ⟨Hz3, Hh3, HO⟩
  iapply Hk
  iframe
  isplitl [Hx2]; · iexact Hx2
  isplitl [Hx3]; · iexact Hx3
  isplitl [Hz0]; · iexact Hz0
  isplitl [Hz1]; · iexact Hz1
  isplitl [Hg2]; · iexact Hg2
  isplitl [Hg3]; · iexact Hg3
  isplitl [Hh0]; · iexact Hh0
  iexact Hh1

/-- The third stretch: the arrived chunks into the result. -/
theorem at_impl3 (c : Dev nD) :
    iprop(env m ρ ∗ gX m ρ c 0 fullShare ∗ gX m ρ c 1 fullShare ∗ gX m ρ c 2 fullShare.right ∗ gX m ρ c 3 fullShare.right
        ∗ gZ m ρ c 0 fullShare.right ∗ gZ m ρ c 1 fullShare.right ∗ gZ m ρ c 2 fullShare ∗ gZ m ρ c 3 fullShare
        ∗ cO c 1 0 ∗ cO c 1 1 ∗ cO c 1 2 ∗ cO c 1 3 ∗ cO c 2 0 ∗ cO c 2 1 ∗ cO c 2 2 ∗ cO c 2 3
        ∗ cO c 3 0 ∗ cO c 3 1 ∗ cO c 3 2 ∗ cO c 3 3
        ∗ wt c (.fxr 0) ∗ wt c (.fxr 1) ∗ wt c (.fzr 0) ∗ wt c (.fzr 1) ∗ owesN c 19
        ∗ ((gX m ρ c 0 fullShare ∗ gX m ρ c 1 fullShare ∗ gX m ρ c 2 fullShare.right ∗ gX m ρ c 3 fullShare.right
            ∗ gZ m ρ c 0 fullShare.right ∗ gZ m ρ c 1 fullShare.right ∗ gZ m ρ c 2 fullShare ∗ gZ m ρ c 3 fullShare
            ∗ wt c (.out 1 0) ∗ wt c (.out 1 1) ∗ wt c (.out 1 2) ∗ wt c (.out 1 3)
            ∗ wt c (.out 2 0) ∗ wt c (.out 2 1) ∗ wt c (.out 2 2) ∗ wt c (.out 2 3)
            ∗ wt c (.out 3 0) ∗ wt c (.out 3 1) ∗ wt c (.out 3 2) ∗ wt c (.out 3 3)
            ∗ zero c (.fxr 0) ∗ zero c (.fxr 1) ∗ zero c (.fzr 0) ∗ zero c (.fzr 1)
            ∗ anyS c bXd 0 ∗ anyS c bXd 1 ∗ anyS c bZd 0 ∗ anyS c bZd 1 ∗ owesN c 19) -∗ run c k Q))
      ⊢ run c (impl3 (placesC c) k) Q := by
  unfold impl3
  iintro ⟨#He, Hg0, Hg1, Hg2, Hg3, Hh0, Hh1, Hh2, Hh3, HX0, HX1, HX2, HX3, HZ0, HZ1, HZ2, HZ3, HD0, HD1, HD2, HD3, Hx0, Hx1, Hz0, Hz1, HO, Hk⟩
  iapply (at_convX m ρ c 0 fullShare); isplitr; · iexact He
  iframe; iintro ⟨Hg0, HX0⟩
  iapply (at_convZ m ρ c 0 fullShare.right); isplitr; · iexact He
  iframe; iintro ⟨Hh0, HZ0⟩
  iapply (at_convX m ρ c 1 fullShare); isplitr; · iexact He
  iframe; iintro ⟨Hg1, HX1⟩
  iapply (at_convZ m ρ c 1 fullShare.right); isplitr; · iexact He
  iframe; iintro ⟨Hh1, HZ1⟩
  iapply (at_convX m ρ c 2 fullShare.right); isplitr; · iexact He
  iframe; iintro ⟨Hg2, HX2⟩
  iapply (at_convZ m ρ c 2 fullShare); isplitr; · iexact He
  iframe; iintro ⟨Hh2, HZ2⟩
  iapply (at_convX m ρ c 3 fullShare.right); isplitr; · iexact He
  iframe; iintro ⟨Hg3, HX3⟩
  iapply (at_convZ m ρ c 3 fullShare); isplitr; · iexact He
  iframe; iintro ⟨Hh3, HZ3⟩
  iapply (at_convXd m ρ c 0); isplitr; · iexact He
  isplitl [Hx0]; · iexact Hx0
  isplitl [HD0]; · iexact HD0
  iframe; iintro ⟨Hx0, Hs0, HD0, HO⟩
  iapply (at_convXd m ρ c 1); isplitr; · iexact He
  isplitl [Hx1]; · iexact Hx1
  isplitl [HD1]; · iexact HD1
  iframe; iintro ⟨Hx1, Hs1, HD1, HO⟩
  iapply (at_convZd m ρ c 0); isplitr; · iexact He
  isplitl [Hz0]; · iexact Hz0
  isplitl [HD2]; · iexact HD2
  iframe; iintro ⟨Hz0, Hs2, HD2, HO⟩
  iapply (at_convZd m ρ c 1); isplitr; · iexact He
  isplitl [Hz1]; · iexact Hz1
  isplitl [HD3]; · iexact HD3
  iframe; iintro ⟨Hz1, Hs3, HD3, HO⟩
  iapply Hk
  iframe
  isplitl [HD0]; · iexact HD0
  isplitl [HD1]; · iexact HD1
  isplitl [HD2]; · iexact HD2
  iexact HD3

/-- The last stretch: the waits for all that a device sent and copied. -/
theorem at_impl4 (c : Dev nD) :
    iprop(env m ρ ∗ wt c (.ys 0) ∗ wt c (.ys 1) ∗ wt c (.ys 2) ∗ wt c (.ys 3) ∗ wt c (.xs 0) ∗ wt c (.xs 1) ∗ wt c (.xs 2) ∗ wt c (.xs 3)
        ∗ wt c (.zs 0) ∗ wt c (.zs 1) ∗ wt c (.zs 2) ∗ wt c (.zs 3) ∗ wt c (.fxs 0) ∗ wt c (.fxs 1) ∗ wt c (.fzs 0) ∗ wt c (.fzs 1)
        ∗ gX m ρ c 2 fullShare.right ∗ gX m ρ c 3 fullShare.right ∗ gZ m ρ c 0 fullShare.right ∗ gZ m ρ c 1 fullShare.right
        ∗ wt c (.out 0 0) ∗ wt c (.out 0 1) ∗ wt c (.out 0 2) ∗ wt c (.out 0 3)
        ∗ wt c (.out 1 0) ∗ wt c (.out 1 1) ∗ wt c (.out 1 2) ∗ wt c (.out 1 3)
        ∗ wt c (.out 2 0) ∗ wt c (.out 2 1) ∗ wt c (.out 2 2) ∗ wt c (.out 2 3)
        ∗ wt c (.out 3 0) ∗ wt c (.out 3 1) ∗ wt c (.out 3 2) ∗ wt c (.out 3 3) ∗ owesN c 19
        ∗ ((dS c 0 ∗ dS c 1 ∗ dS c 2 ∗ dS c 3 ∗ dF c 0 ∗ dF c 1 ∗ dO m ρ c 0 ∗ dO m ρ c 1 ∗ dO m ρ c 2 ∗ dO m ρ c 3 ∗ owesN c 19) -∗ run c k Q))
      ⊢ run c (impl4 (placesC c) k) Q := by
  unfold impl4
  iintro ⟨#He, Hy0, Hy1, Hy2, Hy3, Hx0, Hx1, Hx2, Hx3, Hz0, Hz1, Hz2, Hz3, Hf0, Hf1, He0, He1, Hg2, Hg3, Hh0, Hh1,
    Ho0, Ho1, Ho2, Ho3, Hp0, Hp1, Hp2, Hp3, Hq0, Hq1, Hq2, Hq3, Hr0, Hr1, Hr2, Hr3, HO, Hk⟩
  iapply (at_drainS m ρ c 0); isplitr; · iexact He
  iframe; iintro ⟨Hy0, HO⟩
  iapply (at_drainS m ρ c 1); isplitr; · iexact He
  iframe; iintro ⟨Hy1, HO⟩
  iapply (at_drainS m ρ c 2); isplitr; · iexact He
  iframe; iintro ⟨Hy2, HO⟩
  iapply (at_drainS m ρ c 3); isplitr; · iexact He
  iframe; iintro ⟨Hy3, HO⟩
  iapply (at_drainF m ρ c 0); isplitr; · iexact He
  isplitl [Hf0]; · iexact Hf0
  isplitl [He0]; · iexact He0
  isplitl [Hh0]; · iexact Hh0
  isplitl [Hg2]; · iexact Hg2
  iframe; iintro ⟨Hf0, HO⟩
  iapply (at_drainF m ρ c 1); isplitr; · iexact He
  isplitl [Hf1]; · iexact Hf1
  isplitl [He1]; · iexact He1
  isplitl [Hh1]; · iexact Hh1
  isplitl [Hg3]; · iexact Hg3
  iframe; iintro ⟨Hf1, HO⟩
  iapply (at_drainO m ρ c 0); isplitr; · iexact He
  iframe; iintro ⟨Ho0, HO⟩
  iapply (at_drainO m ρ c 1); isplitr; · iexact He
  iframe; iintro ⟨Ho1, HO⟩
  iapply (at_drainO m ρ c 2); isplitr; · iexact He
  iframe; iintro ⟨Ho2, HO⟩
  iapply (at_drainO m ρ c 3); isplitr; · iexact He
  iframe; iintro ⟨Ho3, HO⟩
  iapply Hk
  iframe

/-- What a device holds as its branch begins, and as it ends. -/
def preB (c : Dev nD) : SP F :=
  iprop(A0 c 0 ∗ A0 c 1 ∗ A0 c 2 ∗ A0 c 3 ∗ sX c 0 ∗ sX c 1 ∗ sX c 2 ∗ sX c 3 ∗ sZ c 0 ∗ sZ c 1 ∗ sZ c 2 ∗ sZ c 3
    ∗ fX c 0 ∗ fX c 1 ∗ fZ c 0 ∗ fZ c 1
    ∗ wt c (.xr 0) ∗ wt c (.xr 1) ∗ wt c (.xr 2) ∗ wt c (.xr 3) ∗ wt c (.zr 0) ∗ wt c (.zr 1) ∗ wt c (.zr 2) ∗ wt c (.zr 3)
    ∗ cO c 1 0 ∗ cO c 1 1 ∗ cO c 1 2 ∗ cO c 1 3 ∗ cO c 2 0 ∗ cO c 2 1 ∗ cO c 2 2 ∗ cO c 2 3
    ∗ cO c 3 0 ∗ cO c 3 1 ∗ cO c 3 2 ∗ cO c 3 3
    ∗ wt c (.fxr 0) ∗ wt c (.fxr 1) ∗ wt c (.fzr 0) ∗ wt c (.fzr 1))
def postB (c : Dev nD) : SP F :=
  iprop(dY c 0 ∗ dY c 1 ∗ dY c 2 ∗ dY c 3 ∗ zero c (.xr 0) ∗ zero c (.xr 1) ∗ zero c (.xr 2) ∗ zero c (.xr 3)
    ∗ zero c (.zr 0) ∗ zero c (.zr 1) ∗ zero c (.zr 2) ∗ zero c (.zr 3)
    ∗ gX m ρ c 0 fullShare ∗ gX m ρ c 1 fullShare ∗ gZ m ρ c 2 fullShare ∗ gZ m ρ c 3 fullShare
    ∗ zero c (.fxr 0) ∗ zero c (.fxr 1) ∗ zero c (.fzr 0) ∗ zero c (.fzr 1)
    ∗ anyS c bXd 0 ∗ anyS c bXd 1 ∗ anyS c bZd 0 ∗ anyS c bZd 1
    ∗ dS c 0 ∗ dS c 1 ∗ dS c 2 ∗ dS c 3 ∗ dF c 0 ∗ dF c 1 ∗ dO m ρ c 0 ∗ dO m ρ c 1 ∗ dO m ρ c 2 ∗ dO m ρ c 3)

/-- One branch of the body. -/
theorem at_impl (c : Dev nD) :
    iprop(env m ρ ∗ ownX m ρ c ∗ ownC m ρ c ∗ preB c ∗ owesN c 3
        ∗ ((ownX m ρ c ∗ ownC m ρ c ∗ postB m ρ c ∗ owesN c 19) -∗ run c k Q))
      ⊢ run c (impl (placesC c) (upB c) k) Q := by
  unfold impl preB postB
  iintro ⟨#He, HX, HC, ⟨HA0, HA1, HA2, HA3, HsX0, HsX1, HsX2, HsX3, HsZ0, HsZ1, HsZ2, HsZ3, HfX0, HfX1, HfZ0, HfZ1,
    Hx0, Hx1, Hx2, Hx3, Hz0, Hz1, Hz2, Hz3, Hp0, Hp1, Hp2, Hp3, Hq0, Hq1, Hq2, Hq3, Hr0, Hr1, Hr2, Hr3, Hu0, Hu1, Hv0, Hv1⟩, HO, Hk⟩
  iapply (at_impl1 m ρ c); isplitr; · iexact He
  iframe
  iintro ⟨HX, HC, HA0, HA1, HA2, HA3, HsZ0, HsZ1, HsX2, HsX3, HL0, HL1, HR2, HR3, HO⟩
  iapply (at_impl2 m ρ c); isplitr; · iexact He
  iframe
  iintro ⟨HsX0, HsX1, HsZ2, HsZ3, HfX0, HfX1, HfZ0, HfZ1, Hx0, Hx1, Hx2, Hx3, Hz0, Hz1, Hz2, Hz3,
    Hg0, Hg1, Hg2, Hg3, Hh0, Hh1, Hh2, Hh3, HO⟩
  iapply (at_impl3 m ρ c); isplitr; · iexact He
  iframe
  iintro ⟨Hg0, Hg1, Hg2, Hg3, Hh0, Hh1, Hh2, Hh3, Hp0, Hp1, Hp2, Hp3, Hq0, Hq1, Hq2, Hq3, Hr0, Hr1, Hr2, Hr3,
    Hu0, Hu1, Hv0, Hv1, Hs0, Hs1, Ht0, Ht1, HO⟩
  ihave HA0 := (A3_split c 0) $$ HA0
  ihave HA1 := (A3_split c 1) $$ HA1
  ihave HA2 := (A3_split c 2) $$ HA2
  ihave HA3 := (A3_split c 3) $$ HA3
  icases HA0 with ⟨HA0, Hy0, Ho0⟩
  icases HA1 with ⟨HA1, Hy1, Ho1⟩
  icases HA2 with ⟨HA2, Hy2, Ho2⟩
  icases HA3 with ⟨HA3, Hy3, Ho3⟩
  iapply (at_impl4 m ρ c); isplitr; · iexact He
  iframe
  iintro ⟨Hd0, Hd1, Hd2, Hd3, He0, He1, Hf0, Hf1, Hf2, Hf3, HO⟩
  iapply Hk
  iframe

end Rules

end Cert.KernelIdeal.Swap

end
-- ==== Proof.Mem.lean ====
/- Buffers cut into slots and put together again: a scratch buffer into its slots, the result into its
   sixteen blocks. And the places the printed branches name, in terms of the mesh. -/
module

public import proofs.«01_k».proof.Proof.Branch

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The places of a branch -/

theorem cond1_iff (c : Dev nD) : k0_cond1 c = 1#1 ↔ upB c = false := by revert c; decide
theorem cond2_iff (c : Dev nD) : k0_cond2 c = 1#1 ↔ upB c = true := by revert c; decide

theorem dev1_ptn (c : Dev nD) : (⟨k0_dev1 c, k0_dev1_lt c⟩ : Dev nD) = ptn 0 c := by revert c; decide
theorem dev2_ptn (c : Dev nD) : (⟨k0_dev2 c, k0_dev2_lt c⟩ : Dev nD) = ptn 1 c := by revert c; decide
theorem dev3_ptn (c : Dev nD) : (⟨k0_dev3 c, k0_dev3_lt c⟩ : Dev nD) = ptn 2 c := by revert c; decide

theorem places_ext {P P' : Places} (hd : ∀ i, P.dev i = P'.dev i) (ho : ∀ q j, P.off q j = P'.off q j) : P = P' := by
  obtain ⟨d, o, i⟩ := P
  obtain ⟨d', o', i'⟩ := P'
  have e : d = d' := funext hd
  have e' : o = o' := funext fun q => funext fun j => ho q j
  subst e; subst e'; rfl

theorem places0_eq (c : Dev nD) (h : k0_cond1 c = 1#1) : places0 c h = placesC c := by
  refine places_ext (fun i => ?_) fun q j => ?_
  · revert c i; decide
  · show (![k0_off2 c, k0_off3 c, k0_off4 c, k0_off5 c] q) (BitVec.ofNat 32 (128 * j.val)) = offO c q j
    revert c q j; decide
theorem places1_eq (c : Dev nD) (h : k0_cond2 c = 1#1) : places1 c h = placesC c := by
  refine places_ext (fun i => ?_) fun q j => ?_
  · revert c i; decide
  · show (![k0_off6 c, k0_off7 c, k0_off8 c, k0_off9 c] q) (BitVec.ofNat 32 (128 * j.val)) = offO c q j
    revert c q j; decide

/-! ## Cutting and joining -/

/-- Contents given piece by piece on disjoint rectangles come from one whole. -/
theorem glue {s : Shape} {α : Type} [Nonempty α] {T : Type} (r : T → Rect s) (hd : ∀ t t', t ≠ t' → Disjoint (r t).set (r t').set)
    (K : ∀ t, (r t).shape.Idx → α) : ∃ X : s.Idx → α, ∀ t y, X ((r t).emb y) = K t y := by
  classical
  refine ⟨fun i => if h : ∃ p : (t : T) × (r t).shape.Idx, (r p.1).emb p.2 = i then K h.choose.1 h.choose.2 else Classical.arbitrary α,
    fun t y => ?_⟩
  have h : ∃ p : (t : T) × (r t).shape.Idx, (r p.1).emb p.2 = (r t).emb y := ⟨⟨t, y⟩, rfl⟩
  show (if h : _ then _ else _) = _
  rw [dif_pos h]
  have hs := h.choose_spec
  generalize h.choose = p at hs
  obtain ⟨t', y'⟩ := p
  by_cases ht : t' = t
  · subst ht; rw [(r t').emb.injective hs]
  · have h1 : (r t').emb y' ∈ (r t').set := by rw [← Rect.map_emb_univ]; exact Finset.mem_map_of_mem _ (Finset.mem_univ _)
    have h2 : (r t).emb y ∈ (r t).set := by rw [← Rect.map_emb_univ]; exact Finset.mem_map_of_mem _ (Finset.mem_univ _)
    rw [show (r t').emb y' = (r t).emb y from hs] at h1
    exact absurd h2 (Finset.disjoint_left.mp (hd t' t ht) h1)

section Slots
variable {n : ℕ}

theorem slots_disj (j j' : Fin n) (h : j ≠ j') : Disjoint (slotR j).set (slotR j').set := by
  refine Rect.unit_disjoint (0 : Fin 3) ?_
  have := Fin.val_ne_of_ne h
  show j.val + 1 ≤ j'.val ∨ j'.val + 1 ≤ j.val
  omega
theorem slots_cover : (Finset.univ : Finset (Fin n)).biUnion (fun j => (slotR j).set) = Finset.univ := by
  refine Finset.eq_univ_iff_forall.mpr fun i => Finset.mem_biUnion.mpr ⟨i 0, Finset.mem_univ _, ?_⟩
  refine Rect.mem_set_unit.mpr fun a => ?_
  fin_cases a
  · exact ⟨le_refl _, Nat.lt_succ_self _⟩
  · exact ⟨Nat.zero_le _, by show (i 1).val < 0 + 256; rw [Nat.zero_add]; exact (i 1).isLt⟩
  · exact ⟨Nat.zero_le _, by show (i 2).val < 0 + 128; rw [Nat.zero_add]; exact (i 2).isLt⟩

variable [∀ e, Nonempty (Elt F e)]

/-- A scratch buffer, whole, is its slots, whatever they hold. -/
theorem slots_split {t : EltTy} (c : Dev nD) (b : Memref sig .tc .vmem (Slots n) t) (X : Vec F (Slots n) t) :
    (owns (c : Thread nD τ) b fullShare X : SP F) ⊢ bigSep Finset.univ fun j => anyS c b j := by
  refine (owns_rects (c : Thread nD τ) b fullShare slotR (fun _ _ => rfl) slots_disj slots_cover X).trans (bigSep_mono fun j _ => ?_)
  exact sl_any c b j _
theorem slots_join {t : EltTy} (c : Dev nD) (b : Memref sig .tc .vmem (Slots n) t) :
    bigSep Finset.univ (fun j => anyS c b j) ⊢ (iprop(∃ X : Vec F (Slots n) t, owns (c : Thread nD τ) b fullShare X) : SP F) := by
  unfold anyS
  refine (BI.bigSep_exists_pi Finset.univ fun j v => sl c b j fullShare v).trans ?_
  iintro ⟨%K, H⟩
  obtain ⟨X, hX⟩ := glue (α := Elt F t) (T := Fin n) slotR slots_disj K
  iexists X
  iapply (owns_of_rects (c : Thread nD τ) b fullShare slotR (fun _ _ => rfl) slots_disj slots_cover X)
  rw [show (fun j : Fin n => owns (c : Thread nD τ) (b.slice (slotR j) (fun _ => rfl)) fullShare (fun y => X ((slotR j).emb y)))
    = fun j => (sl c b j fullShare (K j) : SP F) from funext fun j => by unfold sl; exact congrArg _ (funext (hX j))]
  iexact H

end Slots

/-! ## The result -/

abbrev blkR (c : Dev nD) (p : Fin 4 × Fin 4) : Rect S256x2048 := outR (offO c p.1 p.2) (offO_inb c p.1 p.2)

theorem qtr_inj (c : Dev nD) (q q' : Fin 4) (h : qtr c q = qtr c q') : q = q' := by revert c q q'; decide
theorem qtr_surj (c : Dev nD) (k : Fin 4) : ∃ q, qtr c q = k := by revert c k; decide

theorem blk_disj (c : Dev nD) (p p' : Fin 4 × Fin 4) (h : p ≠ p') : Disjoint (blkR c p).set (blkR c p').set := by
  refine Rect.unit_disjoint (1 : Fin 2) ?_
  show 512 * (qtr c p.1).val + 128 * p.2.val + 128 ≤ 512 * (qtr c p'.1).val + 128 * p'.2.val
    ∨ 512 * (qtr c p'.1).val + 128 * p'.2.val + 128 ≤ 512 * (qtr c p.1).val + 128 * p.2.val
  have h2 := p.2.isLt; have h3 := p'.2.isLt
  by_cases e : (qtr c p.1).val = (qtr c p'.1).val
  · have e1 := qtr_inj c _ _ (Fin.ext e)
    have : p.2.val ≠ p'.2.val := fun e2 => h (Prod.ext e1 (Fin.ext e2))
    omega
  · omega
theorem blk_cover (c : Dev nD) : (Finset.univ : Finset (Fin 4 × Fin 4)).biUnion (fun p => (blkR c p).set) = Finset.univ := by
  refine Finset.eq_univ_iff_forall.mpr fun i => Finset.mem_biUnion.mpr ?_
  have hi : (i 1).val < 2048 := (i 1).isLt
  obtain ⟨q, hq⟩ := qtr_surj c ⟨(i 1).val / 512, by omega⟩
  refine ⟨(q, ⟨(i 1).val % 512 / 128, by omega⟩), Finset.mem_univ _, Rect.mem_set_unit.mpr fun a => ?_⟩
  fin_cases a
  · exact ⟨Nat.zero_le _, by show (i 0).val < 0 + 256; rw [Nat.zero_add]; exact (i 0).isLt⟩
  · show 512 * (qtr c q).val + 128 * ((i 1).val % 512 / 128) ≤ (i 1).val
      ∧ (i 1).val < 512 * (qtr c q).val + 128 * ((i 1).val % 512 / 128) + 128
    rw [hq]
    dsimp only
    omega

variable [∀ e, Nonempty (Elt F e)]

theorem out_exists (c : Dev nD) : ∃ X : Vec F S256x2048 .f32, ∀ p y, X ((blkR c p).emb y) = outC m ρ c p.1 p.2 (sq y) :=
  glue (α := Elt F .f32) (blkR c) (blk_disj c) fun p y => outC m ρ c p.1 p.2 (sq y)
/-- The result on device `c`: its sixteen blocks together. -/
def outF (c : Dev nD) : Vec F S256x2048 .f32 := (out_exists m ρ c).choose
theorem outF_at (c : Dev nD) (p : Fin 4 × Fin 4) (y : S256x128.Idx) : outF m ρ c ((blkR c p).emb y) = outC m ρ c p.1 p.2 (sq y) :=
  (out_exists m ρ c).choose_spec p y

theorem blk_any (c : Dev nD) (q j : Fin 4) (v : Vec F S256x128 .f32) :
    (owns (c : Thread nD τ) (outB (offO c q j) (offO_inb c q j)) fullShare v : SP F) ⊢ anyO c q j := by
  unfold anyO; iintro H; iexists v; iexact H
theorem out_split (c : Dev nD) (X : Vec F S256x2048 .f32) :
    (owns (c : Thread nD τ) bOut fullShare X : SP F) ⊢ bigSep Finset.univ fun p : Fin 4 × Fin 4 => anyO c p.1 p.2 := by
  refine (owns_rects (c : Thread nD τ) bOut fullShare (blkR c) (fun _ _ => rfl) (blk_disj c) (blk_cover c) X).trans (bigSep_mono fun p _ => ?_)
  exact blk_any c p.1 p.2 _
theorem out_join (c : Dev nD) :
    bigSep Finset.univ (fun p : Fin 4 × Fin 4 => blkO c p.1 p.2 (outC m ρ c p.1 p.2)) ⊢ (owns (c : Thread nD τ) bOut fullShare (outF m ρ c) : SP F) := by
  refine BIBase.Entails.trans (Entails.of_eq (bigSep_congr fun p _ => ?_))
    (owns_of_rects (c : Thread nD τ) bOut fullShare (blkR c) (fun _ _ => rfl) (blk_disj c) (blk_cover c) (outF m ρ c))
  unfold blkO
  exact congrArg _ (funext fun y => (outF_at m ρ c p y).symm)

/-! ## Unfolding -/

theorem sep2 (Φ : Fin 2 → SP F) : bigSep Finset.univ Φ = iprop(Φ 0 ∗ Φ 1) := bigSep_univ_eq_bigSepL [0, 1] (by decide) (by decide) Φ
theorem sep4 (Φ : Fin 4 → SP F) : bigSep Finset.univ Φ = iprop(Φ 0 ∗ Φ 1 ∗ Φ 2 ∗ Φ 3) :=
  bigSep_univ_eq_bigSepL [0, 1, 2, 3] (by decide) (by decide) Φ

/-- A buffer whole, at contents. -/
theorem owns_whole_eq (c : Dev nD) (b : Ref sig .tc) (X : b.ty.Contents (Elt F)) :
    (owns (c : Thread nD τ) (Memref.whole b) fullShare X : SP F)
      = iprop(∃ f : Buf (Elt F) ((c : Thread nD τ).loc b), ⌜f = X⌝ ∗ (((c : Thread nD τ).loc b) ↦{fullShare} f)) := by
  unfold owns; simp only [Memref.view_whole, View.read_whole, View.set_whole]

/-- It holds something. -/
def some_ (c : Dev nD) (b : Ref sig .tc) : SP F := iprop(∃ f : Buf (Elt F) ((c : Thread nD τ).loc b), ((c : Thread nD τ).loc b) ↦{fullShare} f)
theorem some_owns (c : Dev nD) (b : Ref sig .tc) :
    (some_ c b : SP F) ⊢ iprop(∃ X : b.ty.Contents (Elt F), owns (c : Thread nD τ) (Memref.whole b) fullShare X) := by
  unfold some_
  iintro ⟨%f, H⟩
  iexists f; rw [owns_whole_eq]; iexists f; isplitr; · ipureintro; rfl
  iexact H
theorem owns_some (c : Dev nD) (b : Ref sig .tc) :
    (iprop(∃ X : b.ty.Contents (Elt F), owns (c : Thread nD τ) (Memref.whole b) fullShare X) : SP F) ⊢ some_ c b := by
  unfold some_
  simp only [owns_whole_eq]
  iintro ⟨%X, %f, -, H⟩
  iexists f; iexact H

/-- The slots of a buffer of four, and of two. -/
def all4 {t : EltTy} (c : Dev nD) (b : Memref sig .tc .vmem (Slots 4) t) : SP F :=
  iprop(anyS c b 0 ∗ anyS c b 1 ∗ anyS c b 2 ∗ anyS c b 3)
def all2 {t : EltTy} (c : Dev nD) (b : Memref sig .tc .vmem (Slots 2) t) : SP F := iprop(anyS c b 0 ∗ anyS c b 1)
theorem any_all4 {t : EltTy} (c : Dev nD) (b : Memref sig .tc .vmem (Slots 4) t) :
    (iprop(∃ X : Vec F (Slots 4) t, owns (c : Thread nD τ) b fullShare X) : SP F) ⊢ all4 c b := by
  iintro ⟨%X, H⟩
  ihave H := (slots_split c b X) $$ H
  ihave H := (Entails.of_eq (sep4 _)) $$ H
  unfold all4; iexact H
theorem all4_any {t : EltTy} (c : Dev nD) (b : Memref sig .tc .vmem (Slots 4) t) :
    (all4 c b : SP F) ⊢ iprop(∃ X : Vec F (Slots 4) t, owns (c : Thread nD τ) b fullShare X) :=
  .trans (Entails.of_eq (by unfold all4; exact (sep4 _).symm)) (slots_join c b)
theorem any_all2 {t : EltTy} (c : Dev nD) (b : Memref sig .tc .vmem (Slots 2) t) :
    (iprop(∃ X : Vec F (Slots 2) t, owns (c : Thread nD τ) b fullShare X) : SP F) ⊢ all2 c b := by
  iintro ⟨%X, H⟩
  ihave H := (slots_split c b X) $$ H
  ihave H := (Entails.of_eq (sep2 _)) $$ H
  unfold all2; iexact H
theorem all2_any {t : EltTy} (c : Dev nD) (b : Memref sig .tc .vmem (Slots 2) t) :
    (all2 c b : SP F) ⊢ iprop(∃ X : Vec F (Slots 2) t, owns (c : Thread nD τ) b fullShare X) :=
  .trans (Entails.of_eq (by unfold all2; exact (sep2 _).symm)) (slots_join c b)

end Cert.KernelIdeal.Swap

end
-- ==== Proof.Enter.lean ====
/- The body's opening: the columns' copy, the three signals and their wait, and the branch taken. -/
module

public import proofs.«01_k».proof.Proof.Mem

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The right to signal the partner in direction `d`; the place at the own barrier cell with the credit
    for its three signals; its counter, the cell closed. -/
def tokB (c : Dev nD) (d : Fin 3) : SP F := dutyTok ER (barCell (ptn d c)) 0 d
def posB (c : Dev nD) : SP F := atPos ER (barCell c) 0 ∅ 0
def wtB (c : Dev nD) : SP F := iprop(cred (tallyAt (barCell c) () 3) ∗ posB c)
def zeroB (c : Dev nD) : SP F := semVal (barCell c) 0

theorem payload_bar (c : Dev nD) (d : Fin 3) : (Rd (F := F) m ρ).payload (barCell c) 0 d = barPay c d := by
  show payOf m ρ c (.reg sBar) d = _
  unfold payOf; rfl

section Rules
variable {α : Type} {Q : α → SP F} {k : PG F α}

/-- The copy of the columns a device multiplies. -/
theorem st_col (c : Dev nD) (X : Vec F S512x512 .f32) {hs hd ht} :
    iprop(env m ρ ∗ owns (c : Thread nD τ) (colB c) fullShare (colC m ρ c) ∗ owns (c : Thread nD τ) bCol fullShare X ∗ kit c .col
        ∗ (wt c .col -∗ run c k Q))
      ⊢ run c (.op (.enqueueDma (colB c) (.here bCol) (.dma sCol) hs hd ht) fun _ => k) Q := by
  iintro ⟨#He, Ha, Hb, Hs, Hk⟩
  ihave #His := (env_cell m ρ c .col) $$ He
  unfold inv wt kit tok payee dirOf
  dsimp only
  icases His with ⟨⟨%κs, #His⟩, #Hrs⟩
  icases Hs with ⟨Hts, Hat⟩
  unfold owns
  icases Ha with ⟨%fs, %hfs, Ha⟩
  icases Hb with ⟨%fd, -, Hb⟩
  iapply (Rounds.wp_copy_pointsTo 𝒱₀ ER (Rd m ρ) (c : Thread nD τ) none (src := colB c) (dst := bCol)
      (sem := .dma (semOf .col))
      (κ := κs) (d := 0) (r := 0) (q := fullShare) (fs := fs) (fd := fd)
      (by rw [duties_cell]; exact Finset.mem_singleton_self _)
      () (amt .col) rfl (amountOf_cell .col) (by
        rw [payload_cell]
        show _ ⊢ iprop(owns (c : Thread nD τ) bCol fullShare (colC m ρ c) ∗ owns (c : Thread nD τ) (colB c) fullShare (colC m ρ c))
        unfold owns
        iintro ⟨Hb, Ha⟩
        isplitl [Hb]
        · iexists _; isplitr
          · ipureintro
            exact (View.read_write_univ (v := (bCol : Memref sig .tc .vmem S512x512 .f32).view) fd ((colB c).view.read (Elt F) fs)).trans hfs
          iexact Hb
        iexists fs; isplitr; · ipureintro; exact hfs
        iexact Ha)) $$ [Ha Hb Hts]
  · isplitr; · iexact His
    isplitl [Ha]; · iexact Ha
    isplitl [Hb]; · iexact Hb
    isplitl [Hts]; · iexact Hts
    iexact Hrs
  iintro Hc
  iapply Hk
  isplitl [Hc]; · iexact Hc
  iexact Hat

/-- A signal to a partner: its landing slots handed over. -/
theorem st_sig (c : Dev nD) (d : Fin 3) (l : List (Fin 3 × SemLoc sig)) :
    iprop(env m ρ ∗ tokB c d ∗ barPay (ptn d c) d ∗ owesL c ((d, .reg sBar) :: l) ∗ (owesL c l -∗ run c k Q))
      ⊢ run c ((semSignalWord (ptn d c) sBar 1#32 : PG F PUnit) >>= fun _ => k) Q := by
  simp only [semSignalWord, Prog.lift, Prog.bind_op, Prog.bind_ret, Prog.pure_eq_ret]
  iintro ⟨#He, Ht, Hp, HO, Hk⟩
  ihave #Hi := (env_bar m ρ (ptn d c)) $$ He
  ihave Hp := (Entails.of_eq (payload_bar m ρ (ptn d c) d).symm) $$ Hp
  unfold inv tokB owesL
  icases Hi with ⟨⟨%κ, #Hi⟩, #Hr⟩
  icases HO with ⟨%W, HO⟩
  iapply (Rounds.wp_signal 𝒱₀ ER (Rd m ρ) (c : Thread nD τ) none (dst := (ptn d c : Thread nD τ)) (sem := sBar) (κ := κ) (r := 0)
      (d := d) (by rw [duties_bar]; exact Finset.mem_univ _) (show amountOf (.reg sBar) = _ from (by decide)) () (oweL (owedL c l))
      (by exact oweL_cons (barCell (ptn d c)) (owedL c l)) (W := W)) $$ [Ht Hp HO]
  · isplitr; · iexact Hi
    isplitl [HO]; · iexact HO
    isplitl [Ht]; · iexact Ht
    isplitl [Hp]; · iexact Hp
    iexact Hr
  iintro HO
  iapply Hk
  iexists W; iexact HO

set_option maxRecDepth 10000 in
/-- The wait for the three partners' signals: their landing slots, and the cell closed. -/
theorem st_bar (c : Dev nD) (l : List (Fin 3 × SemLoc sig)) (hl : ∀ p ∈ l, 1 < lvlOf p.2) :
    iprop(env m ρ ∗ wtB c ∗ owesL c l ∗ ((zeroB c ∗ barPay c 0 ∗ barPay c 1 ∗ barPay c 2 ∗ owesL c l) -∗ run c k Q))
      ⊢ run c ((semWaitWord sBar 3#32 : PG F PUnit) >>= fun _ => k) Q := by
  simp only [semWaitWord, Prog.lift, Prog.bind_op, Prog.bind_ret, Prog.pure_eq_ret]
  iintro ⟨#He, Hw, HO, Hk⟩
  ihave #Hi := (env_bar m ρ c) $$ He
  ihave #Hlev := (env_lev (F := F) m ρ) $$ He
  unfold inv wtB posB owesL
  icases Hi with ⟨⟨%κ, #Hi⟩, #Hr⟩
  icases Hw with ⟨Hc, Hat⟩
  icases HO with ⟨%W, HO⟩
  iapply (Rounds.wp_wait_rest_token 𝒱₀ ER (Rd m ρ) (c : Thread nD τ) none (κ := κ)
      (wpE_semWait_eq 𝒱₀ (c : Thread nD τ) none Set.univ) (Set.mem_univ _) () (O := oweL (owedL c l)) (W := W) (R := 0) (m := 0) (T := ∅)
      (by rw [expect_bar]; decide)) $$ [Hc HO Hat]
  · isplitr; · iexact Hi
    isplitl [Hc]; · iexact Hc
    isplitl [HO]; · iexact HO
    isplitr; · iapply (mayWait c (.reg sBar) l hl); iexact Hlev
    iexact Hat
  iintro ⟨HO, Hat, -, Hp⟩
  ihave Hp := (Entails.of_eq (rest_bar m ρ c)) $$ Hp
  imod (Rounds.cell_close ER (Rd m ρ) (Set.mem_univ κ) (fun h => h) (R := 0 + 1) (duties_later m ρ (barCell c))) $$ [Hat] with Hz
  · isplitr; · iexact Hi
    iexact Hat
  icases Hp with ⟨Hp0, Hp1, Hp2⟩
  iapply Hk
  unfold zeroB
  isplitl [Hz]; · iexact Hz
  isplitl [Hp0]; · iexact Hp0
  isplitl [Hp1]; · iexact Hp1
  isplitl [Hp2]; · iexact Hp2
  iexists _; iexact HO

/-- The two branches of the body: a device takes the one of its half of the mesh. -/
theorem st_branch (c : Dev nD) (v : BitVec 32) {Q : PUnit → SP F} :
    iprop(env m ρ ∗ ownX m ρ c ∗ ownC m ρ c ∗ preB c ∗ owesN c 3
        ∗ ((ownX m ρ c ∗ ownC m ρ c ∗ postB m ρ c ∗ owesN c 19) -∗ Q ⟨⟩))
      ⊢ run c ((if h : k0_cond1 c = 1#1 then impl (places0 c h) false (.ret v) else .ret v : PG F (BitVec 32)) >>= fun _ =>
          (if h : k0_cond2 c = 1#1 then impl (places1 c h) true (.ret ⟨⟩) else .ret ⟨⟩)) Q := by
  unfold run
  rw [wp_bind]
  cases hu : upB c with
  | false =>
    have h2 : ¬ k0_cond2 c = 1#1 := fun h => by rw [(cond2_iff c).mp h] at hu; cases hu
    rw [dif_pos ((cond1_iff c).mpr hu), dif_neg h2, places0_eq, ← hu]
    iintro ⟨He, HX, HC, HB, HO, Hk⟩
    iapply (at_impl m ρ c)
    iframe
    iintro H
    unfold run
    rw [wp_ret]; imodintro
    rw [wp_ret]; imodintro
    iapply Hk; iexact H
  | true =>
    have h1 : ¬ k0_cond1 c = 1#1 := fun h => by rw [(cond1_iff c).mp h] at hu; cases hu
    rw [dif_neg h1, dif_pos ((cond2_iff c).mpr hu), places1_eq, ← hu, wp_ret]
    iintro ⟨He, HX, HC, HB, HO, Hk⟩
    imodintro
    iapply (at_impl m ρ c)
    iframe
    iintro H
    unfold run
    rw [wp_ret]; imodintro
    iapply Hk; iexact H

end Rules

end Cert.KernelIdeal.Swap

end
-- ==== Proof.Body.lean ====
/- The body: what a device starts from and ends with, and the run between. -/
module

public import proofs.«01_k».proof.Proof.Enter

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What a device holds of the cells, by chunk -/

/-- Of chunk `j`'s cells; of the two forwarded sends `i`'s. -/
def gh (c : Dev nD) (j : Fin 4) : SP F :=
  iprop(kit c (.out 0 j) ∗ kit c (.out 1 j) ∗ kit c (.out 2 j) ∗ kit c (.out 3 j)
    ∗ kit c (.ys j) ∗ tok c (.yr j) ∗ wt c (.yr j) ∗ kit c (.xs j) ∗ tok c (.xr j) ∗ wt c (.xr j)
    ∗ kit c (.zs j) ∗ tok c (.zr j) ∗ wt c (.zr j))
def gf (c : Dev nD) (i : Fin 2) : SP F :=
  iprop(kit c (.fxs i) ∗ tok c (.fxr i) ∗ wt c (.fxr i) ∗ kit c (.fzs i) ∗ tok c (.fzr i) ∗ wt c (.fzr i))
/-- Of all. -/
def held (c : Dev nD) : SP F :=
  iprop(tokB c 0 ∗ tokB c 1 ∗ tokB c 2 ∗ wtB c ∗ kit c .col ∗ gh c 0 ∗ gh c 1 ∗ gh c 2 ∗ gh c 3 ∗ gf c 0 ∗ gf c 1)

/-- The counters, the cells closed. -/
def zh (c : Dev nD) (j : Fin 4) : SP F :=
  iprop(zero c (.out 0 j) ∗ zero c (.out 1 j) ∗ zero c (.out 2 j) ∗ zero c (.out 3 j)
    ∗ zero c (.ys j) ∗ zero c (.yr j) ∗ zero c (.xs j) ∗ zero c (.xr j) ∗ zero c (.zs j) ∗ zero c (.zr j))
def zf (c : Dev nD) (i : Fin 2) : SP F := iprop(zero c (.fxs i) ∗ zero c (.fxr i) ∗ zero c (.fzs i) ∗ zero c (.fzr i))
def zeros (c : Dev nD) : SP F := iprop(zero c .col ∗ zh c 0 ∗ zh c 1 ∗ zh c 2 ∗ zh c 3 ∗ zf c 0 ∗ zf c 1)

/-- The scratch buffers. -/
def scratch (c : Dev nD) : SP F :=
  iprop(some_ c cc0_scratch0 ∗ some_ c cc0_scratch1 ∗ some_ c cc0_scratch2 ∗ some_ c cc0_scratch3 ∗ some_ c cc0_scratch4
    ∗ some_ c cc0_scratch5 ∗ some_ c cc0_scratch6 ∗ some_ c cc0_scratch7 ∗ some_ c cc0_scratch8 ∗ some_ c cc0_scratch9
    ∗ some_ c cc0_scratch10 ∗ some_ c cc0_scratch11 ∗ some_ c cc0_scratch12)

/-- Their slots. -/
def slots (c : Dev nD) : SP F :=
  iprop(all4 c bKeep ∗ all4 c bSend ∗ all4 c bYrecv ∗ all4 c bRed ∗ all4 c bRed16 ∗ all4 c bXm ∗ all4 c bZm
    ∗ all2 c bXd ∗ all2 c bZd ∗ all4 c bCx ∗ all4 c bCz ∗ all4 c bCd)

/-- The blocks of the result, by chunk. -/
def colO (c : Dev nD) (j : Fin 4) : SP F := iprop(anyO c 0 j ∗ anyO c 1 j ∗ anyO c 2 j ∗ anyO c 3 j)
def colB' (c : Dev nD) (j : Fin 4) : SP F :=
  iprop(blkO c 0 j (outC m ρ c 0 j) ∗ blkO c 1 j (outC m ρ c 1 j) ∗ blkO c 2 j (outC m ρ c 2 j) ∗ blkO c 3 j (outC m ρ c 3 j))

attribute [local irreducible] wt kit tok pos zero owesL owesN anyS anyO sl blkO ownX ownC tokB posB wtB zeroB some_

section Memory
variable [∀ e, Nonempty (Elt F e)]

theorem scratch_slots (c : Dev nD) : (scratch c : SP F) ⊢ iprop((∃ X, owns (c : Thread nD τ) bCol fullShare X) ∗ slots c) := by
  unfold scratch slots
  iintro ⟨H0, H1, H2, H3, H4, H5, H6, H7, H8, H9, H10, H11, H12⟩
  isplitl [H0]; · iapply (some_owns c cc0_scratch0); iexact H0
  isplitl [H1]; · iapply ((some_owns c cc0_scratch1).trans (any_all4 c bKeep)); iexact H1
  isplitl [H2]; · iapply ((some_owns c cc0_scratch2).trans (any_all4 c bSend)); iexact H2
  isplitl [H3]; · iapply ((some_owns c cc0_scratch3).trans (any_all4 c bYrecv)); iexact H3
  isplitl [H4]; · iapply ((some_owns c cc0_scratch4).trans (any_all4 c bRed)); iexact H4
  isplitl [H5]; · iapply ((some_owns c cc0_scratch5).trans (any_all4 c bRed16)); iexact H5
  isplitl [H6]; · iapply ((some_owns c cc0_scratch6).trans (any_all4 c bXm)); iexact H6
  isplitl [H7]; · iapply ((some_owns c cc0_scratch7).trans (any_all4 c bZm)); iexact H7
  isplitl [H8]; · iapply ((some_owns c cc0_scratch8).trans (any_all2 c bXd)); iexact H8
  isplitl [H9]; · iapply ((some_owns c cc0_scratch9).trans (any_all2 c bZd)); iexact H9
  isplitl [H10]; · iapply ((some_owns c cc0_scratch10).trans (any_all4 c bCx)); iexact H10
  isplitl [H11]; · iapply ((some_owns c cc0_scratch11).trans (any_all4 c bCz)); iexact H11
  iapply ((some_owns c cc0_scratch12).trans (any_all4 c bCd)); iexact H12

theorem slots_scratch (c : Dev nD) : (iprop((∃ X, owns (c : Thread nD τ) bCol fullShare X) ∗ slots c) : SP F) ⊢ scratch c := by
  unfold scratch slots
  iintro ⟨H0, H1, H2, H3, H4, H5, H6, H7, H8, H9, H10, H11, H12⟩
  isplitl [H0]; · iapply (owns_some c cc0_scratch0); iexact H0
  isplitl [H1]; · iapply ((all4_any c bKeep).trans (owns_some c cc0_scratch1)); iexact H1
  isplitl [H2]; · iapply ((all4_any c bSend).trans (owns_some c cc0_scratch2)); iexact H2
  isplitl [H3]; · iapply ((all4_any c bYrecv).trans (owns_some c cc0_scratch3)); iexact H3
  isplitl [H4]; · iapply ((all4_any c bRed).trans (owns_some c cc0_scratch4)); iexact H4
  isplitl [H5]; · iapply ((all4_any c bRed16).trans (owns_some c cc0_scratch5)); iexact H5
  isplitl [H6]; · iapply ((all4_any c bXm).trans (owns_some c cc0_scratch6)); iexact H6
  isplitl [H7]; · iapply ((all4_any c bZm).trans (owns_some c cc0_scratch7)); iexact H7
  isplitl [H8]; · iapply ((all2_any c bXd).trans (owns_some c cc0_scratch8)); iexact H8
  isplitl [H9]; · iapply ((all2_any c bZd).trans (owns_some c cc0_scratch9)); iexact H9
  isplitl [H10]; · iapply ((all4_any c bCx).trans (owns_some c cc0_scratch10)); iexact H10
  isplitl [H11]; · iapply ((all4_any c bCz).trans (owns_some c cc0_scratch11)); iexact H11
  iapply ((all4_any c bCd).trans (owns_some c cc0_scratch12)); iexact H12

/-- The result's staging buffer, cut into its blocks. -/
theorem out_cols (c : Dev nD) (X : Vec F S256x2048 .f32) :
    (owns (c : Thread nD τ) bOut fullShare X : SP F) ⊢ iprop(colO c 0 ∗ colO c 1 ∗ colO c 2 ∗ colO c 3) := by
  refine (out_split c X).trans ?_
  rw [bigSep_univ_prod, sep4]
  simp only [sep4]
  unfold colO
  iintro ⟨⟨H1, H2, H3, H4⟩, ⟨H5, H6, H7, H8⟩, ⟨H9, H10, H11, H12⟩, H13, H14, H15, H16⟩
  iframe
/-- And put together again, holding the result. -/
theorem cols_out (c : Dev nD) :
    iprop(colB' m ρ c 0 ∗ colB' m ρ c 1 ∗ colB' m ρ c 2 ∗ colB' m ρ c 3) ⊢ (owns (c : Thread nD τ) bOut fullShare (outF m ρ c) : SP F) := by
  refine .trans ?_ (out_join m ρ c)
  rw [bigSep_univ_prod, sep4]
  simp only [sep4]
  unfold colB'
  iintro ⟨⟨H1, H2, H3, H4⟩, ⟨H5, H6, H7, H8⟩, ⟨H9, H10, H11, H12⟩, H13, H14, H15, H16⟩
  iframe

end Memory

/-! ## The slots handed to the partners -/

theorem give0 (c : Dev nD) : (all4 c bYrecv : SP F) ⊢ barPay (ptn 0 c) 0 := by
  unfold barPay all4; rw [ptn_ptn]
theorem give1 (c : Dev nD) : (iprop(all4 c bXm ∗ all2 c bXd) : SP F) ⊢ barPay (ptn 1 c) 1 := by
  unfold barPay all4 all2; rw [ptn_ptn]; dsimp only
  iintro ⟨⟨H1, H2, H3, H4⟩, H5, H6⟩; iframe
theorem give2 (c : Dev nD) : (iprop(all4 c bZm ∗ all2 c bZd) : SP F) ⊢ barPay (ptn 2 c) 2 := by
  unfold barPay all4 all2; rw [ptn_ptn]; dsimp only
  iintro ⟨⟨H1, H2, H3, H4⟩, H5, H6⟩; iframe

/-! ## Into the branch -/

/-- Chunk `j`'s buffers, its partners' landing slots among them, and its blocks of the result. -/
def chunkM (c : Dev nD) (j : Fin 4) : SP F :=
  iprop(anyS c bKeep j ∗ anyS c bSend j ∗ anyS c bRed j ∗ anyS c bRed16 j ∗ anyS c bCx j ∗ anyS c bCz j ∗ anyS c bCd j
    ∗ colO c j ∗ anyS (ptn 0 c) bYrecv j ∗ anyS (ptn 1 c) bXm j ∗ anyS (ptn 2 c) bZm j)

theorem chunk_pre (c : Dev nD) (j : Fin 4) :
    iprop(gh c j ∗ chunkM c j) ⊢ (iprop(A0 c j ∗ sX c j ∗ sZ c j ∗ wt c (.xr j) ∗ wt c (.zr j) ∗ cO c 1 j ∗ cO c 2 j ∗ cO c 3 j) : SP F) := by
  unfold gh chunkM colO A0 sX sZ cO srcO
  iintro ⟨⟨H1, H2, H3, H4, H5, H6, H7, H8, H9, H10, H11, H12, H13⟩, K1, K2, K3, K4, K5, K6, K7, ⟨K8, K9, K10, K11⟩, K12, K13, K14⟩
  iframe
theorem fwd_pre (c : Dev nD) (i : Fin 2) :
    iprop(gf c i ∗ anyS (ptn 1 c) bXd i ∗ anyS (ptn 2 c) bZd i) ⊢ (iprop(fX c i ∗ fZ c i ∗ wt c (.fxr i) ∗ wt c (.fzr i)) : SP F) := by
  unfold gf fX fZ
  iintro ⟨⟨H1, H2, H3, H4, H5, H6⟩, K1, K2⟩
  iframe

theorem chunks_mem (c : Dev nD) :
    iprop(all4 c bKeep ∗ all4 c bSend ∗ all4 c bRed ∗ all4 c bRed16 ∗ all4 c bCx ∗ all4 c bCz ∗ all4 c bCd
      ∗ (colO c 0 ∗ colO c 1 ∗ colO c 2 ∗ colO c 3) ∗ barPay c 0 ∗ barPay c 1 ∗ barPay c 2)
    ⊢ (iprop(chunkM c 0 ∗ chunkM c 1 ∗ chunkM c 2 ∗ chunkM c 3 ∗ (anyS (ptn 1 c) bXd 0 ∗ anyS (ptn 2 c) bZd 0)
      ∗ (anyS (ptn 1 c) bXd 1 ∗ anyS (ptn 2 c) bZd 1)) : SP F) := by
  unfold chunkM all4 barPay
  iintro ⟨⟨a0, a1, a2, a3⟩, ⟨b0, b1, b2, b3⟩, ⟨c0, c1, c2, c3⟩, ⟨d0, d1, d2, d3⟩, ⟨e0, e1, e2, e3⟩, ⟨f0, f1, f2, f3⟩, ⟨g0, g1, g2, g3⟩,
    ⟨h0, h1, h2, h3⟩, ⟨i0, i1, i2, i3⟩, ⟨j0, j1, j2, j3, j4, j5⟩, ⟨k0, k1, k2, k3, k4, k5⟩⟩
  iframe

theorem to_preB (c : Dev nD) :
    iprop((gh c 0 ∗ gh c 1 ∗ gh c 2 ∗ gh c 3 ∗ gf c 0 ∗ gf c 1)
      ∗ chunkM c 0 ∗ chunkM c 1 ∗ chunkM c 2 ∗ chunkM c 3 ∗ (anyS (ptn 1 c) bXd 0 ∗ anyS (ptn 2 c) bZd 0)
      ∗ (anyS (ptn 1 c) bXd 1 ∗ anyS (ptn 2 c) bZd 1)) ⊢ (preB c : SP F) := by
  iintro ⟨⟨G0, G1, G2, G3, F0, F1⟩, M0, M1, M2, M3, N0, N1⟩
  ihave H0 := (chunk_pre c 0) $$ [G0 M0]
  · isplitl [G0] <;> iassumption
  ihave H1 := (chunk_pre c 1) $$ [G1 M1]
  · isplitl [G1] <;> iassumption
  ihave H2 := (chunk_pre c 2) $$ [G2 M2]
  · isplitl [G2] <;> iassumption
  ihave H3 := (chunk_pre c 3) $$ [G3 M3]
  · isplitl [G3] <;> iassumption
  ihave H4 := (fwd_pre c 0) $$ [F0 N0]
  · isplitl [F0] <;> iassumption
  ihave H5 := (fwd_pre c 1) $$ [F1 N1]
  · isplitl [F1] <;> iassumption
  unfold preB
  icases H0 with ⟨a1, a2, a3, a4, a5, a6, a7, a8⟩
  icases H1 with ⟨b1, b2, b3, b4, b5, b6, b7, b8⟩
  icases H2 with ⟨c1, c2, c3, c4, c5, c6, c7, c8⟩
  icases H3 with ⟨d1, d2, d3, d4, d5, d6, d7, d8⟩
  icases H4 with ⟨e1, e2, e3, e4⟩
  icases H5 with ⟨f1, f2, f3, f4⟩
  iframe

/-! ## Out of the branch -/

theorem gX_any (c : Dev nD) (j : Fin 4) : gX m ρ c j fullShare ⊢ anyS c bXm j := sl_any c bXm j _
theorem gZ_any (c : Dev nD) (j : Fin 4) : gZ m ρ c j fullShare ⊢ anyS c bZm j := sl_any c bZm j _

theorem dF_lit0 (c : Dev nD) : (dF c 0 : SP F) ⊢ iprop(zero c (.fxs 0) ∗ zero c (.fzs 0) ∗ anyS c bZm 0 ∗ anyS c bXm 2) := by
  unfold dF; exact .rfl
theorem dF_lit1 (c : Dev nD) : (dF c 1 : SP F) ⊢ iprop(zero c (.fxs 1) ∗ zero c (.fzs 1) ∗ anyS c bZm 1 ∗ anyS c bXm 3) := by
  unfold dF; exact .rfl

theorem of_postB (c : Dev nD) :
    iprop(zero c .col ∗ postB m ρ c) ⊢ (iprop(zeros c ∗ slots c ∗ (colB' m ρ c 0 ∗ colB' m ρ c 1 ∗ colB' m ρ c 2 ∗ colB' m ρ c 3)) : SP F) := by
  unfold postB dY dS dO
  iintro ⟨Hc, ⟨a0, b0, c0⟩, ⟨a1, b1, c1⟩, ⟨a2, b2, c2⟩, ⟨a3, b3, c3⟩, d0, d1, d2, d3, e0, e1, e2, e3, f0, f1, g2, g3, h0, h1, i0, i1,
    j0, j1, k0, k1, ⟨l0, m0, n0, o0, p0⟩, ⟨l1, m1, n1, o1, p1⟩, ⟨l2, m2, n2, o2, p2⟩, ⟨l3, m3, n3, o3, p3⟩, q0, q1,
    ⟨r0, s0, t0, u0, v0, w0, x0, y0, z0, A0, B0, C0⟩, ⟨r1, s1, t1, u1, v1, w1, x1, y1, z1, A1, B1, C1⟩,
    ⟨r2, s2, t2, u2, v2, w2, x2, y2, z2, A2, B2, C2⟩, ⟨r3, s3, t3, u3, v3, w3, x3, y3, z3, A3, B3, C3⟩⟩
  ihave f0 := (gX_any m ρ c 0) $$ f0
  ihave f1 := (gX_any m ρ c 1) $$ f1
  ihave g2 := (gZ_any m ρ c 2) $$ g2
  ihave g3 := (gZ_any m ρ c 3) $$ g3
  ihave q0 := (dF_lit0 c) $$ q0
  ihave q1 := (dF_lit1 c) $$ q1
  icases q0 with ⟨D0, E0, F0, G0⟩
  icases q1 with ⟨D1, E1, F1, G1⟩
  unfold zeros zh zf slots all4 all2 colB'
  iframe

/-! ## The run -/

/-- The columns a device multiplies, taken out of its block of `dy` and put back. -/
theorem dy_split (c : Dev nD) : (owns (c : Thread nD τ) bDy fullShare (dyC m ρ c) : SP F)
    ⊢ iprop(owns (c : Thread nD τ) (colB c) fullShare (colC m ρ c)
      ∗ (owns (c : Thread nD τ) (colB c) fullShare (colC m ρ c) -∗ owns (c : Thread nD τ) bDy fullShare (dyC m ρ c))) := by
  iintro H
  ihave H := (owns_slice_split (c : Thread nD τ) bDy fullShare (colBR c) (fun _ => rfl) (dyC m ρ c)) $$ H
  icases H with ⟨Hs, ⟨%f, %hf, Hr⟩⟩
  isplitl [Hs]; · iexact Hs
  iintro Hs
  ihave H := (owns_slice_join (c : Thread nD τ) bDy fullShare (colBR c) (fun _ => rfl) (colC m ρ c) f) $$ [Hs Hr]
  · isplitl [Hs]; · iexact Hs
    iexact Hr
  have e : (colBR c).overlay ((bDy : Memref sig .tc .vmem S512x2048 .f32).view.read (Elt F) f) (colC m ρ c) = dyC m ρ c := by
    rw [hf]
    funext i
    by_cases hi : i ∈ (colBR c).set
    · obtain ⟨y, rfl⟩ := (colBR c).exists_idx_of_mem hi
      exact Rect.overlay_emb _ _ _ y
    · exact Rect.overlay_of_not_mem _ _ _ hi
  rw [← e]
  iexact H

variable [∀ e, Nonempty (Elt F e)]

/-- What the body starts from on device `c`, and ends with. -/
def before (c : Dev nD) : SP F :=
  iprop(env m ρ ∗ held c ∗ scratch c ∗ owesN c 0 ∗ ownX m ρ c ∗ owns (c : Thread nD τ) bDy fullShare (dyC m ρ c)
    ∗ (∃ X, owns (c : Thread nD τ) bOut fullShare X))
def after (c : Dev nD) : SP F :=
  iprop(zeros c ∗ zeroB c ∗ scratch c ∗ owesN c 19 ∗ ownX m ρ c ∗ owns (c : Thread nD τ) bDy fullShare (dyC m ρ c)
    ∗ owns (c : Thread nD τ) bOut fullShare (outF m ρ c))

theorem ownC_any (c : Dev nD) : ownC m ρ c ⊢ (iprop(∃ X, owns (c : Thread nD τ) bCol fullShare X) : SP F) := by
  unfold ownC; iintro H; iexists _; iexact H

theorem owesN_cons (c : Dev nD) (n : ℕ) (p : Fin 3 × SemLoc sig) (h : dues.drop n = p :: dues.drop (n + 1)) :
    (owesN c n : SP F) ⊢ owesL c (p :: dues.drop (n + 1)) := by unfold owesN; rw [h]
theorem owesL_next (c : Dev nD) (n : ℕ) : (owesL c (dues.drop n) : SP F) ⊢ owesN c n := by unfold owesN; exact .rfl

/-- The body, run. -/
theorem at_body (c : Dev nD) (v : Dev nD → BitVec 32) {Q : PUnit → SP F} :
    iprop(before m ρ c ∗ (after m ρ c -∗ Q ⟨⟩)) ⊢ run c (bodyText v) Q := by
  unfold bodyText run
  rw [wp_deviceId]
  dsimp only
  rw [dev1_ptn, dev2_ptn, dev3_ptn]
  unfold before held
  iintro ⟨⟨#He, ⟨Ht0, Ht1, Ht2, HwB, Hkc, Hg0, Hg1, Hg2, Hg3, Hf0, Hf1⟩, HS, HO, HX, HD, ⟨%Y, HY⟩⟩, Hk⟩
  ihave HD := (dy_split m ρ c) $$ HD
  icases HD with ⟨Hcol, HD⟩
  ihave HS := (scratch_slots c) $$ HS
  unfold slots
  icases HS with ⟨⟨%X, HbC⟩, S1, S2, S3, S4, S5, S6, S7, S8, S9, S10, S11, S12⟩
  iapply (st_col m ρ c X)
  isplitr; · iexact He
  isplitl [Hcol]; · iexact Hcol
  isplitl [HbC]; · iexact HbC
  isplitl [Hkc]; · iexact Hkc
  iintro Hwc
  ihave P0 := (give0 c) $$ S3
  ihave P1 := (give1 c) $$ [S6 S8]
  · isplitl [S6] <;> iassumption
  ihave P2 := (give2 c) $$ [S7 S9]
  · isplitl [S7] <;> iassumption
  ihave HO := (owesN_cons c 0 _ rfl) $$ HO
  iapply (st_sig m ρ c 0 (dues.drop 1))
  isplitr; · iexact He
  isplitl [Ht0]; · iexact Ht0
  isplitl [P0]; · iexact P0
  isplitl [HO]; · iexact HO
  iintro HO
  iapply (st_sig m ρ c 1 (dues.drop 2))
  isplitr; · iexact He
  isplitl [Ht1]; · iexact Ht1
  isplitl [P1]; · iexact P1
  isplitl [HO]; · iexact HO
  iintro HO
  iapply (st_sig m ρ c 2 (dues.drop 3))
  isplitr; · iexact He
  isplitl [Ht2]; · iexact Ht2
  isplitl [P2]; · iexact P2
  isplitl [HO]; · iexact HO
  iintro HO
  iapply (st_bar m ρ c (dues.drop 3) (by decide))
  isplitr; · iexact He
  isplitl [HwB]; · iexact HwB
  isplitl [HO]; · iexact HO
  iintro ⟨HzB, P0, P1, P2, HO⟩
  iapply (st_wait m ρ c .col (dues.drop 3) (by decide) (a := colB c) (b := bCol) rfl)
  isplitr; · iexact He
  isplitl [Hwc]; · iexact Hwc
  isplitl [HO]; · iexact HO
  iintro ⟨Hzc, Hp, HO⟩
  ihave Hp := (show pay m ρ c .col ⊢ iprop(ownC m ρ c ∗ owns (c : Thread nD τ) (colB c) fullShare (colC m ρ c)) from by unfold pay ownC; exact .rfl) $$ Hp
  icases Hp with ⟨HC, Hcol⟩
  ihave HD := HD $$ Hcol
  ihave HY := (out_cols c Y) $$ HY
  ihave HM := (chunks_mem c) $$ [S1 S2 S4 S5 S10 S11 S12 HY P0 P1 P2]
  · iframe
  ihave HB := (to_preB c) $$ [Hg0 Hg1 Hg2 Hg3 Hf0 Hf1 HM]
  · isplitr [HM]
    · iframe
    iexact HM
  ihave HO := (owesL_next c 3) $$ HO
  iapply (st_branch m ρ c (v c))
  isplitr; · iexact He
  isplitl [HX]; · iexact HX
  isplitl [HC]; · iexact HC
  isplitl [HB]; · iexact HB
  isplitl [HO]; · iexact HO
  iintro ⟨HX, HC, HB, HO⟩
  ihave HB := (of_postB m ρ c) $$ [Hzc HB]
  · isplitl [Hzc] <;> iassumption
  icases HB with ⟨Hz, HS, HY⟩
  ihave HC := (ownC_any m ρ c) $$ HC
  ihave HS := (slots_scratch c) $$ [HC HS]
  · isplitl [HC] <;> iassumption
  ihave HY := (cols_out m ρ c) $$ HY
  iapply Hk
  unfold after
  isplitl [Hz]; · iexact Hz
  isplitl [HzB]; · iexact HzB
  isplitl [HS]; · iexact HS
  isplitl [HO]; · iexact HO
  isplitl [HX]; · iexact HX
  isplitl [HD]; · iexact HD
  iexact HY

end Cert.KernelIdeal.Swap

end
-- ==== Proof.Deal.lean ====
/- What the launch deals each device: the cells and their tokens as minted, each token passed to the device
   that pays with it, and the credit for what the partners owe. -/
module

public import proofs.«01_k».proof.Proof.Body
public import Idealize.ShloMosaic.Lib.Pipeline.BigSepL

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The transfer cells, by tag -/

/-- A resource of every tag: of chunk `j`'s tags, of the two forwarded sends `i`'s, of all. -/
def hh (Φ : Tag → SP F) (j : Fin 4) : SP F :=
  iprop(Φ (.out 0 j) ∗ Φ (.out 1 j) ∗ Φ (.out 2 j) ∗ Φ (.out 3 j)
    ∗ Φ (.ys j) ∗ Φ (.yr j) ∗ Φ (.xs j) ∗ Φ (.xr j) ∗ Φ (.zs j) ∗ Φ (.zr j))
def ff (Φ : Tag → SP F) (i : Fin 2) : SP F := iprop(Φ (.fxs i) ∗ Φ (.fxr i) ∗ Φ (.fzs i) ∗ Φ (.fzr i))
def byTag (Φ : Tag → SP F) : SP F := iprop(Φ .col ∗ hh Φ 0 ∗ hh Φ 1 ∗ hh Φ 2 ∗ hh Φ 3 ∗ ff Φ 0 ∗ ff Φ 1)

/-- The tags, listed. -/
def chunkT (j : Fin 4) : List Tag := [.out 0 j, .out 1 j, .out 2 j, .out 3 j, .ys j, .yr j, .xs j, .xr j, .zs j, .zr j]
def fwdT (i : Fin 2) : List Tag := [.fxs i, .fxr i, .fzs i, .fzr i]
def tags : List Tag := .col :: (chunkT 0 ++ (chunkT 1 ++ (chunkT 2 ++ (chunkT 3 ++ (fwdT 0 ++ fwdT 1)))))

theorem tags_eq (Φ : Tag → SP F) : bigSepL tags Φ = byTag Φ := by
  unfold tags byTag
  rw [bigSepL_cons', bigSepL_append, bigSepL_append, bigSepL_append, bigSepL_append, bigSepL_append]
  rfl

/-- The transfer semaphores, numbered from 0. -/
abbrev osem (k : Fin 49) : SemLoc sig := csem k.succ
def num (t : Tag) : Fin 49 := ⟨(semOf t).val - 3, by have := (semOf t).isLt; have : (semOf t).val < 52 := this; omega⟩
theorem osem_num (t : Tag) : osem (num t) = .dma (semOf t) := by
  have h := semOf_ge t
  unfold osem csem
  rw [if_neg (by show ¬ ((semOf t).val - 3 + 1 = 0); omega)]
  exact congrArg SemLoc.dma (Fin.ext (by show (semOf t).val - 3 + 1 + 2 = _; omega))

theorem osem_all : (Finset.univ : Finset (Fin 49)) = (tags.map num).toFinset := by decide
theorem osem_once : (tags.map num).Nodup := by decide

theorem cells_eq (Φ : SemLoc sig → SP F) : bigSep Finset.univ (fun k : Fin 49 => Φ (osem k)) = byTag fun t => Φ (.dma (semOf t)) := by
  rw [bigSep_univ_eq_bigSepL (tags.map num) osem_all osem_once, bigSepL_map, ← tags_eq]
  exact congrArg _ (funext fun t => by rw [osem_num])

theorem succ_eq (Φ : Fin 50 → SP F) : bigSep Finset.univ Φ = iprop(Φ 0 ∗ bigSep Finset.univ fun k : Fin 49 => Φ k.succ) := by
  rw [Fin.univ_succ, Finset.cons_eq_insert, BI.bigSep_insert (by simp), BI.bigSep_map]; rfl

/-! ## The launch element -/

theorem csem_injective : Function.Injective csem := by decide
theorem kcell_injective : Function.Injective (kcell : Dev nD × Fin 50 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def swapCells : Finset (GSem nD τ sig) := Finset.univ.map ⟨kcell, kcell_injective⟩

/-- A device's own cells' tokens: its barrier's three, and each transfer's. -/
def tokOf (p : Dev nD × (Fin 3 ⊕ Fin 49)) : GSem nD τ sig × ℕ × Fin 3 := match p.2 with
  | .inl d => (barCell p.1, 0, d)
  | .inr k => (kcell (p.1, k.succ), 0, 0)
theorem osem_ne_bar (k : Fin 49) : osem k ≠ .reg sBar := by
  unfold osem csem
  rw [if_neg (by show ¬ (k.val + 1 = 0); omega)]
  exact fun h => by cases h
theorem tokOf_injective : Function.Injective tokOf := by
  rintro ⟨c, j⟩ ⟨c', j'⟩ h
  cases j with
  | inl d =>
    cases j' with
    | inl d' =>
      have h1 : c = c' := congrArg (fun x : GSem nD τ sig × ℕ × Fin 3 => x.1.1.1) h
      have h2 : d = d' := congrArg (fun x : GSem nD τ sig × ℕ × Fin 3 => x.2.2) h
      rw [h1, h2]
    | inr k' => exact absurd (congrArg (fun x : GSem nD τ sig × ℕ × Fin 3 => x.1.2) h).symm (osem_ne_bar k')
  | inr k =>
    cases j' with
    | inl d' => exact absurd (congrArg (fun x : GSem nD τ sig × ℕ × Fin 3 => x.1.2) h) (osem_ne_bar k)
    | inr k' =>
      have h1 : (c, k.succ) = (c', k'.succ) := kcell_injective (congrArg (fun x : GSem nD τ sig × ℕ × Fin 3 => x.1) h)
      have h2 : k = k' := Fin.succ_injective _ (congrArg Prod.snd h1)
      rw [show c = c' from congrArg Prod.fst h1, h2]
def swapToks : Finset (GSem nD τ sig × ℕ × Fin 3) := Finset.univ.map ⟨tokOf, tokOf_injective⟩

def u₀ : UU :=
  (Rounds.initOf (Pipeline.cells cfgs cellOf_inj) (Pipeline.launchToks cfgs cellOf_inj), Rounds.initOf swapCells swapToks)

/-- The tokens of device `c`'s own cells. -/
def minted (c : Dev nD) : SP F :=
  iprop((dutyTok ER (barCell c) 0 0 ∗ dutyTok ER (barCell c) 0 1 ∗ dutyTok ER (barCell c) 0 2)
    ∗ byTag fun t => dutyTok ER (cell c t) 0 0)

/-- What the launch element deals device `c`. -/
def G (c : Dev nD) : SP F :=
  iprop((bigSep Finset.univ fun k : Fin 50 => roundState ER (Rd m ρ) (kcell (c, k)) 0)
    ∗ (bigSep Finset.univ fun k : Fin 50 => iprop(atPos ER (kcell (c, k)) 0 ∅ 0 ∗ reached ER (kcell (c, k)) 0)) ∗ minted c)

theorem sep3 (Φ : Fin 3 → SP F) : bigSep Finset.univ Φ = iprop(Φ 0 ∗ Φ 1 ∗ Φ 2) := bigSep_univ_eq_bigSepL [0, 1, 2] (by decide) (by decide) Φ

theorem fund_swap : BI.own (ER (Rounds.initOf swapCells swapToks)) ⊢ (|==> bigSep Finset.univ (G m ρ) : SP F) := by
  have hX (Φ : GSem nD τ sig → SP F) : bigSep swapCells Φ = bigSep Finset.univ fun c : Dev nD => bigSep Finset.univ fun k : Fin 50 => Φ (kcell (c, k)) := by
    unfold swapCells; rw [bigSep_map, bigSep_univ_prod]; rfl
  have hT : bigSep swapToks (fun x => (dutyTok ER x.1 x.2.1 x.2.2 : SP F)) = bigSep Finset.univ fun c : Dev nD => minted c := by
    unfold swapToks; rw [bigSep_map, bigSep_univ_prod]
    refine bigSep_congr fun c _ => ?_
    rw [BI.bigSep_univ_sum]
    unfold minted
    rw [← sep3 (fun d => dutyTok ER (barCell c) 0 d), ← cells_eq (fun s => dutyTok ER ((c : Thread nD τ), s) 0 0)]
    rfl
  iintro HX
  imod (Rounds.fund ER (Rd m ρ) swapCells swapToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants -/

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : SP F)
    = bigSep Finset.univ fun k : Fin 49 => semVal ((c : Thread nD τ), osem k) 0 := rfl
theorem unscopedSems0_eq (c : Dev nD) : (unscopedSems0 c : SP F) = semVal (barCell c) 0 := by
  unfold unscopedSems0; rw [bigSep_eq_bigSepL_of_eq [SemLoc.reg sBar] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 50 => semVal (kcell (c, k)) 0 : SP F) := by
  rw [ownSems0_eq, unscopedSems0_eq, succ_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Fin 50 => semVal (kcell (c, k)) 0) ∗ bigSep Finset.univ fun k : Fin 50 => roundState ER (Rd m ρ) (kcell (c, k)) 0)
      ⊢ (|={Set.univ}=> bigSep Finset.univ fun k => iprop(∃ κ : ℕ, cellInv ER (Rd m ρ) κ (kcell (c, k))) : SP F) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, passed to those who pay with them -/

/-- Whose cell a device pays, as a rearrangement of the devices. -/
def payeeE (t : Tag) : Dev nD ≃ Dev nD := match dirOf t with
  | some k => ptnE k
  | none => Equiv.refl _
theorem payeeE_apply (t : Tag) (c : Dev nD) : payeeE t c = payee t c := by
  unfold payeeE payee
  cases dirOf t <;> rfl

theorem deal (l : List Tag) : bigSep Finset.univ (fun c : Dev nD => bigSepL l fun t => (dutyTok ER (cell c t) 0 0 : SP F))
    = bigSep Finset.univ fun c : Dev nD => bigSepL l (tok c) := by
  induction l with
  | nil => rfl
  | cons t l ih =>
    simp only [bigSepL_cons']
    rw [bigSep_sep', bigSep_sep', ih, bigSep_univ_equiv (payeeE t) (fun c : Dev nD => (dutyTok ER (cell c t) 0 0 : SP F))]
    unfold tok
    simp only [payeeE_apply]

theorem dealB (d : Fin 3) : bigSep Finset.univ (fun c : Dev nD => (dutyTok ER (barCell c) 0 d : SP F)) = bigSep Finset.univ fun c : Dev nD => tokB c d := by
  rw [bigSep_univ_equiv (ptnE d) (fun c : Dev nD => (dutyTok ER (barCell c) 0 d : SP F))]
  rfl

/-- The tokens a device pays with. -/
def payToks (c : Dev nD) : SP F := iprop((tokB c 0 ∗ tokB c 1 ∗ tokB c 2) ∗ byTag (tok c))
theorem toks_around : (bigSep Finset.univ fun c : Dev nD => (minted c : SP F)) ⊢ bigSep Finset.univ fun c : Dev nD => payToks c := by
  unfold minted payToks
  simp only [← tags_eq]
  rw [bigSep_sep', bigSep_sep', bigSep_sep', bigSep_sep', bigSep_sep', bigSep_sep', deal, dealB, dealB, dealB]

/-- What stays with device `c` of the cells: its places, and the tokens it pays with. -/
def linear (c : Dev nD) : SP F := iprop((bigSep Finset.univ fun k : Fin 50 => atPos ER (kcell (c, k)) 0 ∅ 0) ∗ payToks c)
def invs : SP F := bigSep Finset.univ fun p : Dev nD × Fin 50 => inv m ρ (kcell p)
instance invs_persistent : BI.Persistent (invs (F := F) m ρ) := by unfold invs; infer_instance
def G' (c : Dev nD) : SP F := iprop(invs m ρ ∗ linear c)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) : SP F)
      ⊢ bigSep Finset.univ (G' m ρ) := by
  have hG : bigSep Finset.univ (G' (F := F) m ρ) = iprop(bigSep Finset.univ (fun _ : Dev nD => invs m ρ)
      ∗ (bigSep Finset.univ fun c : Dev nD => bigSep Finset.univ fun k : Fin 50 => atPos ER (kcell (c, k)) 0 ∅ 0) ∗ bigSep Finset.univ fun c : Dev nD => payToks c) := by
    unfold G' linear; rw [bigSep_sep', bigSep_sep']
  have hI : invs (F := F) m ρ = iprop((bigSep Finset.univ fun p : Dev nD × Fin 50 => iprop(∃ κ : ℕ, cellInv ER (Rd m ρ) κ (kcell p)))
      ∗ bigSep Finset.univ fun p : Dev nD × Fin 50 => reached ER (kcell p) 0) := by
    unfold invs inv; rw [bigSep_sep']
  rw [bigSep_sep', bigSep_sep', ← bigSep_univ_prod (fun ck : Dev nD × Fin 50 => iprop(∃ κ : ℕ, cellInv ER (Rd m ρ) κ (kcell ck))),
    bigSep_congr (s := Finset.univ) (fun (c : Dev nD) _ => bigSep_sep' Finset.univ (fun k : Fin 50 => (atPos ER (kcell (c, k)) 0 ∅ 0 : SP F)) (fun k => reached ER (kcell (c, k)) 0)),
    bigSep_sep', ← bigSep_univ_prod (fun ck : Dev nD × Fin 50 => (reached ER (kcell ck) 0 : SP F)), hG]
  iintro ⟨HI, ⟨Hat, HR⟩, Htok⟩
  ihave Htk := (toks_around (F := F)) $$ Htok
  ihave Hi := (Entails.of_eq hI.symm) $$ [HI HR]
  · isplitl [HI] <;> iassumption
  isplitl [Hi]
  · iapply (BI.bigSep_of_persistent Finset.univ (invs m ρ)); iexact Hi
  isplitl [Hat]; · iexact Hat
  iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : SP F)
    ⊢ |={Set.univ}=> bigSep Finset.univ (G' m ρ) :=
  ((bigSep_mono fun c _ => core_alloc m ρ c).trans (bigSep_fupd _ _)).trans (BI.fupd_mono (regroup m ρ))

/-! ## The launch credit -/

theorem owed_sum (c : Dev nD) (sm : SemLoc sig) (l : List (Fin 3 × SemLoc sig)) :
    ∑ d : Dev nD, oweL (owedL d l) ((c : Thread nD τ), sm) () = l.countP (fun p => p.2 = sm) * amountOf sm := by
  induction l with
  | nil => rw [List.countP_nil, Nat.zero_mul]; exact Finset.sum_eq_zero fun d _ => rfl
  | cons p l ih =>
    have h (d : Dev nD) : oweL (owedL d (p :: l)) ((c : Thread nD τ), sm) ()
        = oweL (owedL d l) ((c : Thread nD τ), sm) () + if d = ptn p.1 c then (if p.2 = sm then amountOf sm else 0) else 0 := by
      show (oweL (owedL d l) + tallyAt ((ptn p.1 d : Thread nD τ), p.2) () (amountOf p.2)) ((c : Thread nD τ), sm) () = _
      rw [Pi.add_apply, Finsupp.add_apply, tallyAt_apply]
      congr 1
      by_cases h1 : d = ptn p.1 c
      · subst h1
        rw [ptn_ptn, if_pos rfl]
        by_cases h2 : p.2 = sm
        · subst h2; rw [if_pos ⟨rfl, rfl⟩, if_pos rfl]
        · rw [if_neg (fun h => h2 (congrArg Prod.snd h.1).symm), if_neg h2]
      · rw [if_neg h1, if_neg]
        rintro ⟨h, -⟩
        have e : c = ptn p.1 d := congrArg (fun g : GSem nD τ sig => g.1.1) h
        exact h1 (by rw [e, ptn_ptn])
    rw [Finset.sum_congr rfl fun d _ => h d, Finset.sum_add_distrib, ih, Finset.sum_ite_eq' Finset.univ (ptn p.1 c), if_pos (Finset.mem_univ _),
      List.countP_cons, Nat.add_mul]
    refine congrArg (l.countP (fun p => p.2 = sm) * amountOf sm + ·) ?_
    by_cases h2 : p.2 = sm
    · rw [if_pos h2, if_pos (by simpa using h2), Nat.one_mul]
    · rw [if_neg h2, if_neg (by simpa using h2), Nat.zero_mul]

theorem launch_at (c : Dev nD) (sm : SemLoc sig) (n : ℕ) (h : dues.countP (fun p => p.2 = sm) = n) :
    tallyOn ((c : Thread nD τ), sm) (launchCredit (Pipeline.owing O₀) 0 ((c : Thread nD τ), sm))
      = (tallyAt ((c : Thread nD τ), sm) () (n * amountOf sm) : CellTallies nD τ sig Unit) := by
  unfold tallyAt; refine congrArg _ (Finsupp.ext fun u => ?_); cases u
  rw [Pipeline.launchCredit_owing, Finsupp.single_eq_same]
  unfold O₀
  rw [owed_sum, h]

/-- The landings, listed. -/
def lands : List Tag := [.yr 0, .yr 1, .yr 2, .yr 3, .xr 0, .xr 1, .xr 2, .xr 3, .zr 0, .zr 1, .zr 2, .zr 3, .fxr 0, .fxr 1, .fzr 0, .fzr 1]
def credT (c : Dev nD) (t : Tag) : SP F := cred (tallyAt (cell c t) () (amt t))

theorem lands_once : ((SemLoc.reg sBar : SemLoc sig) :: lands.map fun t => .dma (semOf t)).Nodup := by decide
theorem count_bar : dues.countP (fun p => p.2 = (.reg sBar : SemLoc sig)) = 3 := by decide
theorem count_land : ∀ t ∈ lands, dues.countP (fun p => p.2 = (.dma (semOf t) : SemLoc sig)) = 1 := by decide

theorem creds (c : Dev nD) : (Pipeline.launchCred O₀ c : SP F) ⊢ iprop(cred (tallyAt (barCell c) () 3) ∗ bigSepL lands (credT c)) := by
  unfold Pipeline.launchCred
  refine (bigSep_subset (Finset.subset_univ ((SemLoc.reg sBar : SemLoc sig) :: lands.map fun t => .dma (semOf t)).toFinset)).trans ?_
  rw [bigSep_eq_bigSepL_of_eq _ rfl lands_once, bigSepL_cons', bigSepL_map]
  refine sep_mono (Entails.of_eq ?_) (bigSepL_mono fun t ht => Entails.of_eq ?_)
  · rw [launch_at c _ 3 count_bar]; rfl
  · unfold credT
    rw [launch_at c _ 1 (count_land t ht), Nat.one_mul, amountOf_cell]

/-! ## What a device starts from -/

attribute [local irreducible] tok pos credT tokB

theorem chunk_held (c : Dev nD) (j : Fin 4) :
    iprop(hh (pos c) j ∗ hh (tok c) j ∗ credT c (.yr j) ∗ credT c (.xr j) ∗ credT c (.zr j)) ⊢ (gh c j : SP F) := by
  unfold hh gh kit wt
  iintro ⟨⟨a0, a1, a2, a3, a4, a5, a6, a7, a8, a9⟩, ⟨b0, b1, b2, b3, b4, b5, b6, b7, b8, b9⟩, c0, c1, c2⟩
  isplitl [a0 b0]; · iframe
  isplitl [a1 b1]; · iframe
  isplitl [a2 b2]; · iframe
  isplitl [a3 b3]; · iframe
  isplitl [a4 b4]; · iframe
  isplitl [b5]; · iexact b5
  isplitl [a5 c0]; · unfold credT; iframe
  isplitl [a6 b6]; · iframe
  isplitl [b7]; · iexact b7
  isplitl [a7 c1]; · unfold credT; iframe
  isplitl [a8 b8]; · iframe
  isplitl [b9]; · iexact b9
  unfold credT; iframe
theorem fwd_held (c : Dev nD) (i : Fin 2) :
    iprop(ff (pos c) i ∗ ff (tok c) i ∗ credT c (.fxr i) ∗ credT c (.fzr i)) ⊢ (gf c i : SP F) := by
  unfold ff gf kit wt
  iintro ⟨⟨a0, a1, a2, a3⟩, ⟨b0, b1, b2, b3⟩, c0, c1⟩
  isplitl [a0 b0]; · iframe
  isplitl [b1]; · iexact b1
  isplitl [a1 c0]; · unfold credT; iframe
  isplitl [a2 b2]; · iframe
  isplitl [b3]; · iexact b3
  unfold credT; iframe

theorem pos_eq (c : Dev nD) : (bigSep Finset.univ fun k : Fin 50 => (atPos ER (kcell (c, k)) 0 ∅ 0 : SP F)) = iprop(posB c ∗ byTag (pos c)) := by
  rw [succ_eq, cells_eq fun s => atPos ER ((c : Thread nD τ), s) 0 ∅ 0]
  unfold pos posB; rfl

theorem held_intro (c : Dev nD) : iprop(linear c ∗ Pipeline.launchCred O₀ c) ⊢ (held c : SP F) := by
  unfold linear payToks
  rw [pos_eq]
  iintro ⟨⟨⟨HpB, Hp⟩, ⟨T0, T1, T2⟩, Ht⟩, Hc⟩
  ihave Hc := (creds c) $$ Hc
  icases Hc with ⟨HcB, Hc⟩
  unfold byTag
  icases Hp with ⟨p, p0, p1, p2, p3, q0, q1⟩
  icases Ht with ⟨t, t0, t1, t2, t3, u0, u1⟩
  ihave Hc := (show (bigSepL lands (credT c) : SP F) ⊢ iprop(credT c (.yr 0) ∗ credT c (.yr 1) ∗ credT c (.yr 2) ∗ credT c (.yr 3)
    ∗ credT c (.xr 0) ∗ credT c (.xr 1) ∗ credT c (.xr 2) ∗ credT c (.xr 3) ∗ credT c (.zr 0) ∗ credT c (.zr 1) ∗ credT c (.zr 2) ∗ credT c (.zr 3)
    ∗ credT c (.fxr 0) ∗ credT c (.fxr 1) ∗ credT c (.fzr 0) ∗ credT c (.fzr 1)) from .rfl) $$ Hc
  icases Hc with ⟨y0, y1, y2, y3, x0, x1, x2, x3, z0, z1, z2, z3, f0, f1, g0, g1⟩
  unfold held wtB
  isplitl [T0]; · iexact T0
  isplitl [T1]; · iexact T1
  isplitl [T2]; · iexact T2
  isplitl [HcB HpB]
  · isplitl [HcB] <;> iassumption
  isplitl [p t]
  · unfold kit; isplitl [t] <;> iassumption
  isplitl [p0 t0 y0 x0 z0]
  · iapply (chunk_held c 0); iframe
  isplitl [p1 t1 y1 x1 z1]
  · iapply (chunk_held c 1); iframe
  isplitl [p2 t2 y2 x2 z2]
  · iapply (chunk_held c 2); iframe
  isplitl [p3 t3 y3 x3 z3]
  · iapply (chunk_held c 3); iframe
  isplitl [q0 u0 f0 g0]
  · iapply (fwd_held c 0); iframe
  iapply (fwd_held c 1); iframe

end Cert.KernelIdeal.Swap

end
-- ==== Proof.Launch.lean ====
/- The launch: the body's triple put into the pipeline, and the run of the whole program, on any float values. -/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable [∀ e, Nonempty (Elt F e)]

/-! ## The pipeline's proof data -/

def startΦ (c : Dev nD) : SP F := iprop(env m ρ ∗ held c ∗ scratch c)
def endΦ (c : Dev nD) : SP F := iprop(zeros c ∗ zeroB c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => dyC m ρ c
    | ⟨2, _⟩ => outF m ρ c
  Φ t := match t with
    | ⟨0, _⟩ => startΦ m ρ c
    | ⟨_ + 1, _⟩ => endΦ c
  q _ := fullShare
  owed t := match t with
    | ⟨0, _⟩ => O₀ c
    | ⟨_ + 1, _⟩ => 0

theorem before_x (c : Dev nD) (d) : (dats m ρ 0 c).before (0 : Fin 3) t0_0 d = xC m ρ c := by
  unfold Dat.before; rw [if_pos (fetch0_0 t0_0)]; rfl
theorem before_dy (c : Dev nD) (d) : (dats m ρ 0 c).before (1 : Fin 3) t0_0 d = dyC m ρ c := by
  unfold Dat.before; rw [if_pos (fetch0_1 t0_0)]; rfl

/-- What the point starts from, and leaves. -/
def pointPre (c : Dev nD) : SP F :=
  iprop(startΦ m ρ c ∗ (dats m ρ 0 c).owesAt () t0_0.castSucc
    ∗ (∃ d, owns (c : Thread nD τ) bX fullShare ((dats m ρ 0 c).before (0 : Fin 3) t0_0 d))
    ∗ (∃ d, owns (c : Thread nD τ) bDy fullShare ((dats m ρ 0 c).before (1 : Fin 3) t0_0 d))
    ∗ (∃ d, owns (c : Thread nD τ) bOut fullShare ((dats m ρ 0 c).before (2 : Fin 3) t0_0 d)))
def pointPost (c : Dev nD) : SP F :=
  iprop(endΦ c ∗ (dats m ρ 0 c).owesAt () t0_0.succ
    ∗ owns (c : Thread nD τ) bX fullShare (xC m ρ c) ∗ owns (c : Thread nD τ) bDy fullShare (dyC m ρ c)
    ∗ owns (c : Thread nD τ) bOut fullShare (outF m ρ c))

theorem owes_in (c : Dev nD) : ((dats m ρ 0 c).owesAt () t0_0.castSucc : SP F) ⊢ owesN c 0 := by
  unfold Dat.owesAt Pipeline.owesWithin
  rw [show (dats m ρ 0 c).owed t0_0.castSucc = oweL (owedL c (dues.drop 0)) from rfl]
  unfold owesN owesL
  iintro ⟨%W, %hW, HO⟩
  iexists W; iexact HO
theorem owes_out (c : Dev nD) : (owesN c 19 : SP F) ⊢ (dats m ρ 0 c).owesAt () t0_0.succ := by
  unfold Dat.owesAt Pipeline.owesWithin
  rw [show (dats m ρ 0 c).owed t0_0.succ = oweL (owedL c (dues.drop 19)) from rfl]
  unfold owesN owesL
  iintro ⟨%W, HO⟩
  iexists W
  isplitr; · ipureintro; exact fun _ _ => Or.inl trivial
  iexact HO

theorem at_point (c : Dev nD) : pointPre m ρ c ⊢ run c (bodyAt0 t0_0) (fun _ => pointPost m ρ c) := by
  obtain ⟨v, hv⟩ := body_eq (F := F)
  rw [hv]
  unfold pointPre startΦ
  simp only [before_x, before_dy]
  iintro ⟨⟨He, Hh, Hs⟩, Ho, ⟨%d0, Hx⟩, ⟨%d1, Hy⟩, ⟨%d2, Hout⟩⟩
  ihave Ho := (owes_in m ρ c) $$ Ho
  iapply (at_body m ρ c v)
  isplitl
  · unfold before ownX
    isplitl [He]; · iexact He
    isplitl [Hh]; · iexact Hh
    isplitl [Hs]; · iexact Hs
    isplitl [Ho]; · iexact Ho
    isplitl [Hx]; · iexact Hx
    isplitl [Hy]; · iexact Hy
    iexists _; iexact Hout
  · unfold after ownX pointPost endΦ
    iintro ⟨Hz, HzB, Hs, Ho, Hx, Hy, Hout⟩
    ihave Ho := (owes_out m ρ c) $$ Ho
    isplitl [Hz HzB Hs]
    · isplitl [Hz]; · iexact Hz
      isplitl [HzB] <;> iassumption
    isplitl [Ho]; · iexact Ho
    isplitl [Hx]; · iexact Hx
    isplitl [Hy] <;> iassumption

theorem body_obligation (c : Dev nD) : BodyObligation (dats (F := F) m ρ 0 c) (defs₀ (F := F)) 𝒱₀ () Set.univ := fun t => by
  rw [fin_N0 t, bigSep_W0, bigSep_W0]
  exact at_point m ρ c

/-! ## The side conditions -/

theorem share_eq (c : Dev nD) (w : Fin cfg0.W) : (dats m ρ 0 c).share w = fullShare := by unfold Dat.share; split <;> rfl

/-- What a device starts from, but for the buffers. -/
def start (c : Dev nD) : SP F := iprop(env m ρ ∗ held c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : SP F) := by
  unfold G' start env invs
  iintro ⟨-, Hlev, Hcr, -, HI, Hl⟩
  ihave Hh := (held_intro (F := F) c) $$ [Hl Hcr]
  · isplitl [Hl] <;> iassumption
  imodintro
  isplitl
  · isplitl [HI Hlev]
    · isplitl [HI] <;> iassumption
    iexact Hh
  · iempintro

theorem start_enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = startΦ m ρ c from rfl, scopedRest0_eq]
  unfold start startΦ scratch some_
  iintro ⟨⟨He, Hh⟩, -, Hs⟩
  isplitl [He]; · iexact He
  isplitl [Hh]; · iexact Hh
  iexact Hs

theorem zeros_eq (c : Dev nD) : (Pipeline.ownSems0 (Ix := Unit) (Name := ℕ) (U := UU) (Lvl := ℕ) (Val := Elt F) (τ := τ) osem c : SP F) = zeros c := by
  rw [ownSems0_eq, cells_eq fun s => semVal ((c : Thread nD τ), s) 0]
  rfl

theorem end_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = endΦ c from rfl, scopedRest0_eq, zeros_eq, unscopedSems0_eq]
  unfold endΦ zeroB scratch some_
  iintro ⟨Hz, HzB, Hs⟩
  isplitl [HzB]; · iexact HzB
  isplitl [Hz]; · iexact Hz
  iexact Hs

theorem waits (c : Dev nD) : (levAts L lv : SP F) ⊢ Pipeline.cellsWaits cfgs (dats m ρ) () 0 c :=
  Pipeline.cellsWaits_intro cfgs (dats m ρ) () 0 c fun w s t => by
    rcases t with ⟨_ | _, ht⟩
    · exact mayWait c _ dues (by fin_cases w <;> fin_cases s <;> decide)
    · exact (show (levAts L lv : SP F) ⊢ MayWait (c : Thread nD τ) _ () 0 from by rw [MayWait_zero]; iintro -; iempintro)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every weakly fair execution of the sixteen devices terminates with each
    window's array at its computed contents and every counter at zero. -/
theorem main_runs : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_swap m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := start_enter m ρ) (hout := end_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Both arguments are as they were. -/
theorem finalA_x (c : Dev nD) : finalA m ρ c (0 : Fin 3) = m ((c : Thread nD τ).loc main_arg0) := (dats (F := F) m ρ 0 c).arrAt_in (0 : Fin 3) rfl _
theorem finalA_dy (c : Dev nD) : finalA m ρ c (1 : Fin 3) = m ((c : Thread nD τ).loc main_arg1) := (dats (F := F) m ρ 0 c).arrAt_in (1 : Fin 3) rfl _

end Cert.KernelIdeal.Swap

end
-- ==== Proof.Value.lean ====
/- The value: over the exact reals each device ends with its block of the whole product. -/
module

public import proofs.«01_k».proof.Proof.Launch
public import proofs.«01_k».proof.Proof.Gen.ReferenceIdeal.Run
public import Idealize.ShloMosaic.Lib.Pointwise.Contract
public import Idealize.ShloMosaic.Lib.Pipeline.Value
public import Idealize.ShloMosaic.Lib.Layout
public import Idealize.ShloMosaic.PureOps.Ideal.Laws

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The whole buffers of the windows -/

section Windows

variable {F : FTy → Type} [FloatOps F]
variable (m : (ℓ : Loc nD τ sig) → Buf (Elt F) ℓ) (ρ : Dev nD → PrngReg)

theorem xC_eq (c : Dev nD) : xC m ρ c = m ((c : Thread nD τ).loc main_arg0) := by
  unfold xC s₀
  funext i
  exact congrArg (m ((c : Thread nD τ).loc main_arg0)) (funext fun a => Fin.ext (Pipeline.Window.rect_emb_val_of_index_zero win0_0 (0 : Fin 1) a rfl i))
theorem dyC_eq (c : Dev nD) : dyC m ρ c = m ((c : Thread nD τ).loc main_arg1) := by
  unfold dyC s₀
  funext i
  exact congrArg (m ((c : Thread nD τ).loc main_arg1)) (funext fun a => Fin.ext (Pipeline.Window.rect_emb_val_of_index_zero win0_1 (0 : Fin 1) a rfl i))

variable [∀ e, Nonempty (Elt F e)]

theorem blk2_emb (i : S256x2048.Idx) : (win0_2.blk (0 : Fin 1)).view.emb i = i :=
  funext fun a => Fin.ext (Pipeline.Window.rect_emb_val_of_index_zero win0_2 (0 : Fin 1) a rfl i)

/-- The result's array ends at what the body leaves. -/
theorem finalA_out (c : Dev nD) : finalA m ρ c (2 : Fin 3) = outF m ρ c := by
  refine (dats m ρ 0 c).arrAt_eq_of_cover (2 : Fin 3) (outF m ρ c) (fun t _ => ?_) (fun i => ⟨t0_0, flush0_2 t0_0, ?_⟩)
  · rw [fin_N0 t]
    funext i
    exact (congrArg (outF m ρ c) (blk2_emb i)).symm
  · have h := (win0_2.blk (0 : Fin 1)).view.emb_mem_set i
    rw [blk2_emb i] at h
    exact h

end Windows

/-! ## Elements by number -/

/-- Row `r`, column `k` of an array. -/
def at2 {a b : ℕ} (V : (⟨2, ![a, b]⟩ : Shape).Idx → EReal) (r k : ℕ) : EReal :=
  if h : r < a ∧ k < b then V (ix2 ⟨r, h.1⟩ ⟨k, h.2⟩) else 0

theorem at2_of {a b : ℕ} (V : (⟨2, ![a, b]⟩ : Shape).Idx → EReal) (i : (⟨2, ![a, b]⟩ : Shape).Idx) : V i = at2 V (i 0).val (i 1).val := by
  unfold at2
  rw [dif_pos ⟨(i 0).isLt, (i 1).isLt⟩]
  exact congrArg V (funext fun q => by fin_cases q <;> rfl)

section Value

variable (A : Vec Ideal Cert.ReferenceIdeal.S1024x512 .f32) (B : Vec Ideal Cert.ReferenceIdeal.S1024x2048 .f32)

/-- One term of the product at row `r`, column `n`; the sum over half `y` of the rows; over all. -/
def term (r n k : ℕ) : EReal := at2 (a := 1024) (b := 512) A k r * at2 (a := 1024) (b := 2048) B k n
def part (y r n : ℕ) : EReal := ∑ k ∈ Finset.range 512, term A B r n (512 * y + k)
def total (r n : ℕ) : EReal := ∑ k ∈ Finset.range 1024, term A B r n k

theorem total_eq (r n : ℕ) : total A B r n = part A B 0 r n + part A B 1 r n := by
  unfold total part
  rw [show (1024 : ℕ) = 512 + 512 from rfl, Finset.sum_range_add]
  simp only [Nat.mul_zero, Nat.zero_add, Nat.mul_one]

/-- The reference's result. -/
def refV : Vec Ideal Cert.ReferenceIdeal.S512x2048 .f32 :=
  Host.dotGeneral (F := Ideal) (φ₁ := .f32) (φ₂ := .f32) Cert.ReferenceIdeal.dot_S512x1024_S1024x2048_S512x2048_1_0_0_1_n_n none
    (transpose Cert.ReferenceIdeal.S512x1024 [1, 0] A Cert.ReferenceIdeal.Gen.transposes_S1024x512_S512x1024_1_0) B

theorem refV_at (i : Cert.ReferenceIdeal.S512x2048.Idx) : refV A B i = total A B (i 0).val (i 1).val := by
  unfold refV
  simp only [pointwise]
  unfold total
  rw [Finset.sum_range, zero_add]
  refine Finset.sum_congr rfl fun k _ => ?_
  unfold term transpose
  exact congrArg₂ (· * ·) (at2_of (a := 1024) (b := 512) A _) (at2_of (a := 1024) (b := 2048) B _)

/-! ## Reading the layout steps -/

theorem half_at (up : Bool) (v : FVec Ideal S512x128 .f32) (y : S256x128.Idx) (z : S512x128.Idx)
    (h0 : (z 0).val = 256 * up.toNat + (y 0).val) (h1 : (z 1).val = (y 1).val) : half up v y = v z := by
  cases up <;> unfold half extractStridedSlice <;> refine congrArg v (funext fun a => Fin.ext ?_) <;> fin_cases a
  · show 0 + (y 0).val = (z 0).val; rw [h0]; rfl
  · show 0 + (y 1).val = (z 1).val; omega
  · show 256 + (y 0).val = (z 0).val; rw [h0]; rfl
  · show 0 + (y 1).val = (z 1).val; omega

theorem cast_sq {α : Type} (v : S256x128.Idx → α) (y : S256x128.Idx) : shapeCast S1x256x128 v shapeCasts_S256x128_S1x256x128 (sq y) = v y := by
  unfold shapeCast sq
  rw [Shape.reshapeEquiv_reshapeEquiv, Shape.reshapeEquiv_self]
theorem uncast_sq {α : Type} (v : S1x256x128.Idx → α) (y : S256x128.Idx) : shapeCast S256x128 v shapeCasts_S1x256x128_S256x128 y = v (sq y) := rfl

/-! ## A device's share -/

variable (m : (ℓ : Loc nD τ sig) → Buf (Elt Ideal) ℓ) (ρ : Dev nD → PrngReg)

/-- A device's place along `y`. -/
def yOf (c : Dev nD) : ℕ := c.val / 4 % 2

/-- Each device holds its half of the rows of both arguments. -/
def Shares : Prop :=
  ∀ c : Dev nD, (∀ i : S512x512.Idx, xC m ρ c i = at2 (a := 1024) (b := 512) A (512 * yOf c + (i 0).val) (i 1).val)
    ∧ ∀ i : S512x2048.Idx, dyC m ρ c i = at2 (a := 1024) (b := 2048) B (512 * yOf c + (i 0).val) (i 1).val

variable {A B m ρ}
variable (H : Shares A B m ρ)
include H

theorem x_at (c : Dev nD) (i : S512x512.Idx) :
    xAll m ρ c i = at2 (a := 1024) (b := 512) A (512 * yOf c + (i 0).val) (i 1).val := by
  unfold xAll
  rw [(H c).1]
  refine congrArg₂ (at2 (a := 1024) (b := 512) A) ?_ ?_
  · show 512 * yOf c + (0 + 1 * (i 0).val) = _; omega
  · show 0 + 1 * (i 1).val = _; omega
theorem chunk_at (c : Dev nD) (j : Fin 4) (i : S512x128.Idx) :
    chunkC m ρ c j i = at2 (a := 1024) (b := 2048) B (512 * yOf c + (i 0).val) (512 * (qtr c 0).val + 128 * j.val + (i 1).val) := by
  unfold chunkC colC
  rw [(H c).2]
  refine congrArg₂ (at2 (a := 1024) (b := 2048) B) ?_ ?_
  · show 512 * yOf c + (k0_off1 c 0 + 1 * (0 + 1 * (i 0).val)) = _
    rw [off1_eq]; show 512 * yOf c + (0 + 1 * (0 + 1 * (i 0).val)) = _; omega
  · show k0_off1 c 1 + 1 * (128 * j.val + 1 * (i 1).val) = _
    rw [off1_eq]; show 512 * (qtr c 0).val + 1 * (128 * j.val + 1 * (i 1).val) = _; omega

/-- A chunk of the product. -/
theorem mat_at (c : Dev nD) (j : Fin 4) (i : S512x128.Idx) :
    matV (xAll m ρ c) (chunkC m ρ c j) i = part A B (yOf c) (i 0).val (512 * (qtr c 0).val + 128 * j.val + (i 1).val) := by
  unfold matV
  simp only [pointwise]
  unfold part
  rw [Finset.sum_range]
  show Ideal.ofBits .f32 0#32 + _ = _
  rw [Ideal.ofBits_zero_f32, zero_add]
  refine Finset.sum_congr rfl fun k _ => ?_
  rw [chunk_at H]
  unfold term shapeCast
  rw [Shape.reshapeEquiv_self, x_at H]
  rfl

/-- The column of the whole result of an element of quarter `k`'s chunk `j`. -/
def colN (k : Fin 4) (j : Fin 4) (y : S256x128.Idx) : ℕ := 512 * k.val + 128 * j.val + (y 1).val

omit H in
theorem up_eq (c : Dev nD) : (upB c).toNat = yOf c := by revert c; decide
omit H in
theorem down_eq (c : Dev nD) : (!upB c).toNat = 1 - yOf c := by revert c; decide

theorem half_mat (c : Dev nD) (up : Bool) (j : Fin 4) (y : S256x128.Idx) :
    half up (matV (xAll m ρ c) (chunkC m ρ c j)) y = part A B (yOf c) (256 * up.toNat + (y 0).val) (colN (qtr c 0) j y) := by
  have h0 : (y 0).val < 256 := (y 0).isLt
  have h1 : (y 1).val < 128 := (y 1).isLt
  have hu : up.toNat ≤ 1 := Bool.toNat_le up
  rw [half_at up _ y (ix2 ⟨256 * up.toNat + (y 0).val, by omega⟩ ⟨(y 1).val, h1⟩) rfl rfl, mat_at H]
  rfl

theorem keep_at (c : Dev nD) (j : Fin 4) (y : S256x128.Idx) :
    keepC m ρ c j (sq y) = part A B (yOf c) (256 * yOf c + (y 0).val) (colN (qtr c 0) j y) := by
  unfold keepC keepV
  rw [cast_sq, half_mat H, up_eq]
theorem send_at (c : Dev nD) (j : Fin 4) (y : S256x128.Idx) :
    sendC m ρ c j (sq y) = part A B (yOf c) (256 * (1 - yOf c) + (y 0).val) (colN (qtr c 0) j y) := by
  unfold sendC sendV
  rw [cast_sq]
  refine Eq.trans (b := half (!upB c) (matV (xAll m ρ c) (chunkC m ρ c j)) y) rfl ?_
  rw [half_mat H, down_eq]

omit H in
theorem y_across (c : Dev nD) : yOf (ptn 0 c) = 1 - yOf c ∧ 1 - (1 - yOf c) = yOf c ∧ qtr (ptn 0 c) 0 = qtr c 0 := by revert c; decide
omit H in
theorem y_cases (c : Dev nD) : yOf c = 0 ∨ yOf c = 1 := by revert c; decide

/-- What is kept and what arrives add up to the whole product. -/
theorem sum_at (c : Dev nD) (j : Fin 4) (y : S256x128.Idx) :
    sumV (keepC m ρ c j) (yrC m ρ c j) y = total A B (256 * yOf c + (y 0).val) (colN (qtr c 0) j y) := by
  have h := y_across c
  refine Eq.trans (b := keepC m ρ c j (sq y) + sendC m ρ (ptn 0 c) j (sq y)) rfl ?_
  rw [keep_at H, send_at H, h.1, h.2.1, h.2.2, total_eq]
  rcases y_cases c with e | e <;> rw [e]
  exact add_comm _ _

theorem red_at (c : Dev nD) (j : Fin 4) (y : S256x128.Idx) :
    redC m ρ c j (sq y) = total A B (256 * yOf c + (y 0).val) (colN (qtr c 0) j y) := by
  unfold redC redV
  rw [cast_sq, sum_at H]
theorem ext_at (c : Dev nD) (j : Fin 4) (y : S256x128.Idx) :
    extV (red16C m ρ c j) (sq y) = total A B (256 * yOf c + (y 0).val) (colN (qtr c 0) j y) := by
  unfold extV
  rw [cast_sq]
  refine Eq.trans (b := red16C m ρ c j (sq y)) rfl ?_
  unfold red16C red16V
  rw [cast_sq]
  exact sum_at H c j y

omit H in
theorem quarters (c : Dev nD) : (yOf (ptn 1 c) = yOf c ∧ qtr (ptn 1 c) 0 = qtr c 1) ∧ (yOf (ptn 2 c) = yOf c ∧ qtr (ptn 2 c) 0 = qtr c 2)
    ∧ (yOf (ptn 1 (ptn 2 c)) = yOf c ∧ qtr (ptn 1 (ptn 2 c)) 0 = qtr c 3) := by revert c; decide

/-- Each block of the result is its block of the whole product. -/
theorem block_at (c : Dev nD) (q j : Fin 4) (y : S256x128.Idx) :
    outC m ρ c q j (sq y) = total A B (256 * yOf c + (y 0).val) (colN (qtr c q) j y) := by
  obtain ⟨⟨a1, b1⟩, ⟨a2, b2⟩, a3, b3⟩ := quarters c
  match q with
  | 0 => exact red_at H c j y
  | 1 => exact (ext_at H (ptn 1 c) j y).trans (by rw [a1, b1])
  | 2 => exact (ext_at H (ptn 2 c) j y).trans (by rw [a2, b2])
  | 3 => exact (ext_at H (ptn 1 (ptn 2 c)) j y).trans (by rw [a3, b3])

theorem out_at [∀ e, Nonempty (Elt Ideal e)] (c : Dev nD) (i : S256x2048.Idx) :
    outF m ρ c i = total A B (256 * yOf c + (i 0).val) (i 1).val := by
  have hi := Finset.mem_univ i
  rw [← blk_cover c] at hi
  obtain ⟨p, -, hp⟩ := Finset.mem_biUnion.mp hi
  obtain ⟨y, hy⟩ := LoadRect.exists_idx_of_mem _ hp
  have hy : (blkR c p).emb y = i := hy
  subst hy
  rw [outF_at, block_at H]
  refine congrArg₂ (total A B) ?_ ?_
  · show _ = 256 * yOf c + (0 + 1 * (y 0).val); omega
  · show 512 * (qtr c p.1).val + 128 * p.2.val + (y 1).val = 512 * (qtr c p.1).val + 128 * p.2.val + 1 * (y 1).val; omega

/-- The block a device's coordinates name. -/
abbrev place (c : Dev nD) : (b : Fin 2) → Fin (Layout.cutSize [2, 2, 4] ((![[1], []] : Fin 2 → List ℕ) b)) := Layout.meshBlock [2, 2, 4] ![[1], []] c
omit H in
theorem mesh_row (c : Dev nD) : (place c 0).val = yOf c := by revert c; decide
omit H in
theorem mesh_col (c : Dev nD) : (place c 1).val = 0 := by revert c; decide

omit H in
theorem shares_of (hx : ∀ c : Dev nD, m ((c : Thread nD τ).loc main_arg0) = Layout.blockN ⟨2, ![512, 512]⟩ ⟨2, ![1024, 512]⟩ (Layout.meshBlock [2, 2, 4] ![[1], []] c) A)
    (hdy : ∀ c : Dev nD, m ((c : Thread nD τ).loc main_arg1) = Layout.blockN ⟨2, ![512, 2048]⟩ ⟨2, ![1024, 2048]⟩ (Layout.meshBlock [2, 2, 4] ![[1], []] c) B) :
    Shares A B m ρ := by
  refine fun c => ⟨fun i => ?_, fun i => ?_⟩
  · rw [xC_eq, hx c, Layout.blockN_apply, at2_of (a := 1024) (b := 512) A]
    refine congrArg₂ (at2 (a := 1024) (b := 512) A) ?_ ?_
    · show (place c 0).val * 512 + (i 0).val = _; rw [mesh_row]; omega
    · show (place c 1).val * 512 + (i 1).val = _; rw [mesh_col]; omega
  · rw [dyC_eq, hdy c, Layout.blockN_apply, at2_of (a := 1024) (b := 2048) B]
    refine congrArg₂ (at2 (a := 1024) (b := 2048) B) ?_ ?_
    · show (place c 0).val * 512 + (i 0).val = _; rw [mesh_row]; omega
    · show (place c 1).val * 2048 + (i 1).val = _; rw [mesh_col]; omega

/-- Every device ends with its block of the reference's result. -/
theorem out_block [∀ e, Nonempty (Elt Ideal e)] (c : Dev nD) :
    outF m ρ c = Layout.blockN ⟨2, ![256, 2048]⟩ ⟨2, ![512, 2048]⟩ (Layout.meshBlock [2, 2, 4] ![[1], []] c) (refV A B) := by
  funext i
  rw [out_at H, Layout.blockN_apply, refV_at]
  refine congrArg₂ (total A B) ?_ ?_
  · show _ = (place c 0).val * 256 + (i 0).val; rw [mesh_row]; omega
  · show _ = (place c 1).val * 2048 + (i 1).val; rw [mesh_col]; omega

end Value

end Cert.KernelIdeal.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs have one text; their tables of bodies agree row by row. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | n, h⟩ := l
  · rfl
  · exact absurd h (by show ¬ n + 1 < 1; omega)
theorem defs_eq : Cert.Kernel.defs (F := Bits) = Cert.KernelIdeal.defs (F := Bits) := congrArg (Pipeline.defs _) bodies_eq

theorem frame_kernel : Cert.quiescent_Kernel := fun m ρ _ => by
  have h := KernelIdeal.Swap.main_runs (F := Bits) m ρ
  rw [← defs_eq] at h
  exact (θ_run Cert.Kernel.defs _ _).mono
    (fun _ h => ⟨fun c => ⟨(h.1 c 0).trans (KernelIdeal.Swap.finalA_x m ρ c), (h.1 c 1).trans (KernelIdeal.Swap.finalA_dy m ρ c)⟩, h.2⟩) h

theorem frame_ideal : Cert.quiescent_KernelIdeal := fun m ρ _ =>
  (θ_run Cert.KernelIdeal.defs _ _).mono
    (fun _ h => ⟨fun c => ⟨(h.1 c 0).trans (KernelIdeal.Swap.finalA_x m ρ c), (h.1 c 1).trans (KernelIdeal.Swap.finalA_dy m ρ c)⟩, h.2⟩)
    (KernelIdeal.Swap.main_runs (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (ReferenceIdeal.Value.run (F := Ideal) m ρ)

/-- The idealized kernel's result is, on every device, its block of the reference's. -/
theorem value : Cert.algebraic_KernelIdeal_ReferenceIdeal := fun m ρ m' ρ' _ hm =>
  ⟨KernelIdeal.Swap.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c 2).trans ((KernelIdeal.Swap.finalA_out m ρ c).trans
          (KernelIdeal.Swap.out_block (KernelIdeal.Swap.shares_of (fun c => (hm c).1) (fun c => (hm c).2)) c)),
        (h.1 c 0).trans (KernelIdeal.Swap.finalA_x m ρ c), (h.1 c 1).trans (KernelIdeal.Swap.finalA_dy m ρ c)⟩)
      (KernelIdeal.Swap.main_runs (F := Ideal) m ρ),
    (θ_run Cert.ReferenceIdeal.defs _ _).mono (fun _ h => h 0) (ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
